-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.bf16_pair.PackStatement Cert.KernelIdeal.S192x128
  ∧ IdealRules.bf16_pair.Statement Cert.KernelIdeal.S192x2x128 Cert.KernelIdeal.S192x1x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15_0)) (v1 : (c : Dev Cert.KernelIdeal.nD) → Buf (Elt Ideal) ((c.tc : Thread Cert.KernelIdeal.nD Cert.KernelIdeal.τ).loc Cert.KernelIdeal.main_v15_1)) (v2 : (c : Dev Cert.KernelIdeal.nD) → Buf (Elt Ideal) ((c.tc : Thread Cert.KernelIdeal.nD Cert.KernelIdeal.τ).loc Cert.KernelIdeal.main_v15_2)) (v3 : (c : Dev Cert.KernelIdeal.nD) → Buf (Elt Ideal) ((c.tc : Thread Cert.KernelIdeal.nD Cert.KernelIdeal.τ).loc Cert.KernelIdeal.main_v15_3)) (v4 : (c : Dev Cert.KernelIdeal.nD) → Buf (Elt Ideal) ((c.tc : Thread Cert.KernelIdeal.nD Cert.KernelIdeal.τ).loc Cert.KernelIdeal.main_v15_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15_0) = v0 c
          ∧ r.2.mem ((c.tc : Thread Cert.KernelIdeal.nD Cert.KernelIdeal.τ).loc Cert.KernelIdeal.main_v15_1) = v1 c
          ∧ r.2.mem ((c.tc : Thread Cert.KernelIdeal.nD Cert.KernelIdeal.τ).loc Cert.KernelIdeal.main_v15_2) = v2 c
          ∧ r.2.mem ((c.tc : Thread Cert.KernelIdeal.nD Cert.KernelIdeal.τ).loc Cert.KernelIdeal.main_v15_3) = v3 c
          ∧ r.2.mem ((c.tc : Thread Cert.KernelIdeal.nD Cert.KernelIdeal.τ).loc Cert.KernelIdeal.main_v15_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73_0) = v0 c
          ∧ r.2.mem ((c.tc : Thread Cert.ReferenceIdeal.nD Cert.ReferenceIdeal.τ).loc Cert.ReferenceIdeal.main_v73_1) = v1 c
          ∧ r.2.mem ((c.tc : Thread Cert.ReferenceIdeal.nD Cert.ReferenceIdeal.τ).loc Cert.ReferenceIdeal.main_v73_2) = v2 c
          ∧ r.2.mem ((c.tc : Thread Cert.ReferenceIdeal.nD Cert.ReferenceIdeal.τ).loc Cert.ReferenceIdeal.main_v73_3) = v3 c
          ∧ r.2.mem ((c.tc : Thread Cert.ReferenceIdeal.nD Cert.ReferenceIdeal.τ).loc Cert.ReferenceIdeal.main_v41) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S192x1x8192 : Shape := ⟨3, ![192, 1, 8192]⟩
abbrev S8192 : Shape := ⟨1, ![8192]⟩
abbrev S8192x10240 : Shape := ⟨2, ![8192, 10240]⟩
abbrev S10240 : Shape := ⟨1, ![10240]⟩
abbrev S192x1 : Shape := ⟨2, ![192, 1]⟩
abbrev S64 : Shape := ⟨1, ![64]⟩
abbrev S_ : Shape := ⟨0, ![]⟩
abbrev S128 : Shape := ⟨1, ![128]⟩
abbrev S1x128 : Shape := ⟨2, ![1, 128]⟩
abbrev S192x8192 : Shape := ⟨2, ![192, 8192]⟩
abbrev S1x8192 : Shape := ⟨2, ![1, 8192]⟩
abbrev S1x10240 : Shape := ⟨2, ![1, 10240]⟩
abbrev S192x64x128 : Shape := ⟨3, ![192, 64, 128]⟩
abbrev S192x8x128 : Shape := ⟨3, ![192, 8, 128]⟩
abbrev S8192x1024 : Shape := ⟨2, ![8192, 1024]⟩
abbrev S1x1024 : Shape := ⟨2, ![1, 1024]⟩
abbrev S192x128 : Shape := ⟨2, ![192, 128]⟩
abbrev S192 : Shape := ⟨1, ![192]⟩
abbrev S1x256 : Shape := ⟨2, ![1, 256]⟩
abbrev S192x256 : Shape := ⟨2, ![192, 256]⟩
abbrev S192x1024 : Shape := ⟨2, ![192, 1024]⟩
abbrev S192x4x128 : Shape := ⟨3, ![192, 4, 128]⟩
abbrev S768x128 : Shape := ⟨2, ![768, 128]⟩
abbrev S192x2x128 : Shape := ⟨3, ![192, 2, 128]⟩
abbrev S192x1x128 : Shape := ⟨3, ![192, 1, 128]⟩

abbrev nBuf : Space → Nat
  | .hbm => 29
  | .vmem => 16
  | .smem => 0
  | _ => 0

abbrev bufTy : (tb : Table) → Fin (tcTables nBuf tb) → BufTy
  | .hbm, ⟨0, _⟩ => ⟨S192x1x8192, .bf16⟩
  | .hbm, ⟨1, _⟩ => ⟨S8192, .f32⟩
  | .hbm, ⟨2, _⟩ => ⟨S8192x10240, .fp8e4m3⟩
  | .hbm, ⟨3, _⟩ => ⟨S10240, .f32⟩
  | .hbm, ⟨4, _⟩ => ⟨S192x1, .i32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S128, .f32⟩
  | .hbm, ⟨20, _⟩ => ⟨S1x128, .f32⟩
  | .hbm, ⟨21, _⟩ => ⟨S192x8192, .bf16⟩
  | .hbm, ⟨22, _⟩ => ⟨S1x8192, .f32⟩
  | .hbm, ⟨23, _⟩ => ⟨S1x10240, .f32⟩
  | .hbm, ⟨24, _⟩ => ⟨S192x64x128, .bf16⟩
  | .hbm, ⟨25, _⟩ => ⟨S192x8x128, .bf16⟩
  | .hbm, ⟨26, _⟩ => ⟨S192x8x128, .bf16⟩
  | .hbm, ⟨27, _⟩ => ⟨S192x8192, .fp8e4m3⟩
  | .hbm, ⟨28, _⟩ => ⟨S192x1, .f32⟩
  | .local _ .vmem, ⟨0, _⟩ => ⟨S192x8192, .bf16⟩
  | .local _ .vmem, ⟨1, _⟩ => ⟨S1x8192, .f32⟩
  | .local _ .vmem, ⟨2, _⟩ => ⟨S8192x1024, .fp8e4m3⟩
  | .local _ .vmem, ⟨3, _⟩ => ⟨S8192x1024, .fp8e4m3⟩
  | .local _ .vmem, ⟨4, _⟩ => ⟨S1x1024, .f32⟩
  | .local _ .vmem, ⟨5, _⟩ => ⟨S1x1024, .f32⟩
  | .local _ .vmem, ⟨6, _⟩ => ⟨S192x1, .i32⟩
  | .local _ .vmem, ⟨7, _⟩ => ⟨S1x128, .f32⟩
  | .local _ .vmem, ⟨8, _⟩ => ⟨S192x8x128, .bf16⟩
  | .local _ .vmem, ⟨9, _⟩ => ⟨S192x8x128, .bf16⟩
  | .local _ .vmem, ⟨10, _⟩ => ⟨S192x8x128, .bf16⟩
  | .local _ .vmem, ⟨11, _⟩ => ⟨S192x8x128, .bf16⟩
  | .local _ .vmem, ⟨12, _⟩ => ⟨S192x8192, .fp8e4m3⟩
  | .local _ .vmem, ⟨13, _⟩ => ⟨S192x1, .f32⟩
  | .local _ .vmem, ⟨14, _⟩ => ⟨S192x128, .f32⟩
  | .local _ .vmem, ⟨15, _⟩ => ⟨S192x128, .f32⟩
  | _, _ => ⟨S192x1x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15_0 : Ref sig .tc := ⟨.hbm, 24, rfl⟩
abbrev main_v15_1 : Ref sig .tc := ⟨.hbm, 25, rfl⟩
abbrev main_v15_2 : Ref sig .tc := ⟨.hbm, 26, rfl⟩
abbrev main_v15_3 : Ref sig .tc := ⟨.hbm, 27, rfl⟩
abbrev main_v15_4 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem10_0 : DmaSem sig := 13

abbrev nD : Nat := 1
abbrev τ : Topo := Topo.v7x

variable {F : FTy → Type} [BitOps F]

abbrev grid0 : Pipeline.Grid := ⟨1, ![10], ![false]⟩

def k0_cond2 (i : grid0.Coords) : BitVec 1 :=
  let arg0 : BitVec 32 := BitVec.ofNat 32 (i 0).val
  let c8_i32 : BitVec 32 := 8#32
  let v23 : BitVec 1 := Scalar.cmpi .slt arg0 c8_i32
  let v24 : BitVec 32 := Scalar.extui v23
  let c0_i32_8 : BitVec 32 := 0#32
  let v25 : BitVec 1 := Scalar.cmpi .ne v24 c0_i32_8
  v25

def k0_cond3 (i : grid0.Coords) : BitVec 1 :=
  let arg0 : BitVec 32 := BitVec.ofNat 32 (i 0).val
  let c8_i32_9 : BitVec 32 := 8#32
  let v26 : BitVec 1 := Scalar.cmpi .eq arg0 c8_i32_9
  let v27 : BitVec 32 := Scalar.extui v26
  let c0_i32_10 : BitVec 32 := 0#32
  let v28 : BitVec 1 := Scalar.cmpi .ne v27 c0_i32_10
  v28

def k0_cond4 (i : grid0.Coords) : BitVec 1 :=
  let arg0 : BitVec 32 := BitVec.ofNat 32 (i 0).val
  let c9_i32 : BitVec 32 := 9#32
  let v29 : BitVec 1 := Scalar.cmpi .eq arg0 c9_i32
  let v30 : BitVec 32 := Scalar.extui v29
  let c0_i32_11 : BitVec 32 := 0#32
  let v31 : BitVec 1 := Scalar.cmpi .ne v30 c0_i32_11
  v31

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  let c0_i32_1 : BitVec 32 := 0#32
  ![c0_i32.toNat, v0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S192x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8192x1024 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S192x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S192x8x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S192x8x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S192x8x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S192x8192 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S192x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== KernelIdeal.lean ====
variable {F : FTy → Type} [FloatOps F]
-- ==== ReferenceIdeal.lean ====
abbrev S192x1x8192 : Shape := ⟨3, ![192, 1, 8192]⟩
abbrev S8192 : Shape := ⟨1, ![8192]⟩
abbrev S8192x10240 : Shape := ⟨2, ![8192, 10240]⟩
abbrev S10240 : Shape := ⟨1, ![10240]⟩
abbrev S192x1 : Shape := ⟨2, ![192, 1]⟩
abbrev S_ : Shape := ⟨0, ![]⟩
abbrev S192x1x1 : Shape := ⟨3, ![192, 1, 1]⟩
abbrev S1x1x8192 : Shape := ⟨3, ![1, 1, 8192]⟩
abbrev S192x8192 : Shape := ⟨2, ![192, 8192]⟩
abbrev S192 : Shape := ⟨1, ![192]⟩
abbrev S64 : Shape := ⟨1, ![64]⟩
abbrev S1x1x64 : Shape := ⟨3, ![1, 1, 64]⟩
abbrev S192x1x64 : Shape := ⟨3, ![192, 1, 64]⟩
abbrev S1x10240 : Shape := ⟨2, ![1, 10240]⟩
abbrev S192x64x128 : Shape := ⟨3, ![192, 64, 128]⟩
abbrev S192x8x128 : Shape := ⟨3, ![192, 8, 128]⟩
abbrev S192x10240 : Shape := ⟨2, ![192, 10240]⟩
abbrev S192x1024 : Shape := ⟨2, ![192, 1024]⟩
abbrev S192x64x64 : Shape := ⟨3, ![192, 64, 64]⟩
abbrev S192x8x64 : Shape := ⟨3, ![192, 8, 64]⟩

abbrev nBuf : Space → Nat
  | .hbm => 123
  | .vmem => 10
  | .smem => 0
  | _ => 0

abbrev bufTy : (tb : Table) → Fin (tcTables nBuf tb) → BufTy
  | .hbm, ⟨0, _⟩ => ⟨S192x1x8192, .bf16⟩
  | .hbm, ⟨1, _⟩ => ⟨S8192, .f32⟩
  | .hbm, ⟨2, _⟩ => ⟨S8192x10240, .fp8e4m3⟩
  | .hbm, ⟨3, _⟩ => ⟨S10240, .f32⟩
  | .hbm, ⟨4, _⟩ => ⟨S192x1, .i32⟩
  | .hbm, ⟨5, _⟩ => ⟨S192x1x8192, .f32⟩
  | .hbm, ⟨6, _⟩ => ⟨S192x1x8192, .f32⟩
  | .hbm, ⟨7, _⟩ => ⟨S_, .f32⟩
  | .hbm, ⟨8, _⟩ => ⟨S192x1, .f32⟩
  | .hbm, ⟨9, _⟩ => ⟨S192x1x1, .f32⟩
  | .hbm, ⟨10, _⟩ => ⟨S_, .f32⟩
  | .hbm, ⟨11, _⟩ => ⟨S192x1x1, .f32⟩
  | .hbm, ⟨12, _⟩ => ⟨S192x1x1, .f32⟩
  | .hbm, ⟨13, _⟩ => ⟨S_, .f32⟩
  | .hbm, ⟨14, _⟩ => ⟨S192x1x1, .f32⟩
  | .hbm, ⟨15, _⟩ => ⟨S192x1x1, .f32⟩
  | .hbm, ⟨16, _⟩ => ⟨S192x1x1, .f32⟩
  | .hbm, ⟨17, _⟩ => ⟨S192x1x8192, .f32⟩
  | .hbm, ⟨18, _⟩ => ⟨S192x1x8192, .f32⟩
  | .hbm, ⟨19, _⟩ => ⟨S1x1x8192, .f32⟩
  | .hbm, ⟨20, _⟩ => ⟨S192x1x8192, .f32⟩
  | .hbm, ⟨21, _⟩ => ⟨S192x1x8192, .f32⟩
  | .hbm, ⟨22, _⟩ => ⟨S192x8192, .f32⟩
  | .hbm, ⟨23, _⟩ => ⟨S192x8192, .f32⟩
  | .hbm, ⟨24, _⟩ => ⟨S_, .f32⟩
  | .hbm, ⟨25, _⟩ => ⟨S192, .f32⟩
  | .hbm, ⟨26, _⟩ => ⟨S192x1, .f32⟩
  | .hbm, ⟨27, _⟩ => ⟨S_, .f32⟩
  | .hbm, ⟨28, _⟩ => ⟨S192x1, .f32⟩
  | .hbm, ⟨29, _⟩ => ⟨S192x1, .f32⟩
  | .hbm, ⟨30, _⟩ => ⟨S_, .f32⟩
  | .hbm, ⟨31, _⟩ => ⟨S192x1, .f32⟩
  | .hbm, ⟨32, _⟩ => ⟨S192x1, .i1⟩
  | .hbm, ⟨33, _⟩ => ⟨S_, .f32⟩
  | .hbm, ⟨34, _⟩ => ⟨S192x1, .f32⟩
  | .hbm, ⟨35, _⟩ => ⟨S192x1, .i1⟩
  | .hbm, ⟨36, _⟩ => ⟨S192x1, .i1⟩
  | .hbm, ⟨37, _⟩ => ⟨S192x1, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S192x1, .f32⟩
  | .hbm, ⟨42, _⟩ => ⟨S192x1, .f32⟩
  | .hbm, ⟨43, _⟩ => ⟨S192x1, .f32⟩
  | .hbm, ⟨44, _⟩ => ⟨S_, .f32⟩
  | .hbm, ⟨45, _⟩ => ⟨S192x1, .f32⟩
  | .hbm, ⟨46, _⟩ => ⟨S192x1, .f32⟩
  | .hbm, ⟨47, _⟩ => ⟨S_, .f32⟩
  | .hbm, ⟨48, _⟩ => ⟨S_, .f32⟩
  | .hbm, ⟨49, _⟩ => ⟨S192x1, .f32⟩
  | .hbm, ⟨50, _⟩ => ⟨S192x1, .f32⟩
  | .hbm, ⟨51, _⟩ => ⟨S_, .f32⟩
  | .hbm, ⟨52, _⟩ => ⟨S192x1, .f32⟩
  | .hbm, ⟨53, _⟩ => ⟨S192x1, .i1⟩
  | .hbm, ⟨54, _⟩ => ⟨S_, .f32⟩
  | .hbm, ⟨55, _⟩ => ⟨S192x1, .f32⟩
  | .hbm, ⟨56, _⟩ => ⟨S192x1, .i1⟩
  | .hbm, ⟨57, _⟩ => ⟨S_, .f32⟩
  | .hbm, ⟨58, _⟩ => ⟨S192x1, .f32⟩
  | .hbm, ⟨59, _⟩ => ⟨S192x1, .f32⟩
  | .hbm, ⟨60, _⟩ => ⟨S_, .f32⟩
  | .hbm, ⟨61, _⟩ => ⟨S_, .f32⟩
  | .hbm, ⟨62, _⟩ => ⟨S192x1, .f32⟩
  | .hbm, ⟨63, _⟩ => ⟨S192x1, .f32⟩
  | .hbm, ⟨64, _⟩ => ⟨S_, .f32⟩
  | .hbm, ⟨65, _⟩ => ⟨S_, .f32⟩
  | .hbm, ⟨66, _⟩ => ⟨S192x1, .f32⟩
  | .hbm, ⟨67, _⟩ => ⟨S192x1, .f32⟩
  | .hbm, ⟨68, _⟩ => ⟨S192x1, .f32⟩
  | .hbm, ⟨69, _⟩ => ⟨S_, .f32⟩
  | .hbm, ⟨70, _⟩ => ⟨S192x1, .f32⟩
  | .hbm, ⟨71, _⟩ => ⟨S192x1, .i1⟩
  | .hbm, ⟨72, _⟩ => ⟨S_, .f32⟩
  | .hbm, ⟨73, _⟩ => ⟨S192x1, .f32⟩
  | .hbm, ⟨74, _⟩ => ⟨S192x1, .i1⟩
  | .hbm, ⟨75, _⟩ => ⟨S_, .f32⟩
  | .hbm, ⟨76, _⟩ => ⟨S192x1, .f32⟩
  | .hbm, ⟨77, _⟩ => ⟨S192x1, .f32⟩
  | .hbm, ⟨78, _⟩ => ⟨S_, .f32⟩
  | .hbm, ⟨79, _⟩ => ⟨S_, .f32⟩
  | .hbm, ⟨80, _⟩ => ⟨S192x1, .f32⟩
  | .hbm, ⟨81, _⟩ => ⟨S192x1, .f32⟩
  | .hbm, ⟨82, _⟩ => ⟨S_, .f32⟩
  | .hbm, ⟨83, _⟩ => ⟨S_, .f32⟩
  | .hbm, ⟨84, _⟩ => ⟨S192x1, .f32⟩
  | .hbm, ⟨85, _⟩ => ⟨S192x1, .f32⟩
  | .hbm, ⟨86, _⟩ => ⟨S192x8192, .f32⟩
  | .hbm, ⟨87, _⟩ => ⟨S192x8192, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S192x8192, .f32⟩
  | .hbm, ⟨92, _⟩ => ⟨S192x8192, .f32⟩
  | .hbm, ⟨93, _⟩ => ⟨S_, .f32⟩
  | .hbm, ⟨94, _⟩ => ⟨S192x8192, .f32⟩
  | .hbm, ⟨95, _⟩ => ⟨S192x8192, .f32⟩
  | .hbm, ⟨96, _⟩ => ⟨S64, .f32⟩
  | .hbm, ⟨97, _⟩ => ⟨S_, .f32⟩
  | .hbm, ⟨98, _⟩ => ⟨S64, .f32⟩
  | .hbm, ⟨99, _⟩ => ⟨S64, .f32⟩
  | .hbm, ⟨100, _⟩ => ⟨S_, .f32⟩
  | .hbm, ⟨101, _⟩ => ⟨S64, .f32⟩
  | .hbm, ⟨102, _⟩ => ⟨S64, .f32⟩
  | .hbm, ⟨103, _⟩ => ⟨S_, .f32⟩
  | .hbm, ⟨104, _⟩ => ⟨S64, .f32⟩
  | .hbm, ⟨105, _⟩ => ⟨S64, .f32⟩
  | .hbm, ⟨106, _⟩ => ⟨S64, .f32⟩
  | .hbm, ⟨107, _⟩ => ⟨S_, .f32⟩
  | .hbm, ⟨108, _⟩ => ⟨S64, .f32⟩
  | .hbm, ⟨109, _⟩ => ⟨S64, .f32⟩
  | .hbm, ⟨110, _⟩ => ⟨S192x1, .f32⟩
  | .hbm, ⟨111, _⟩ => ⟨S192x1x1, .f32⟩
  | .hbm, ⟨112, _⟩ => ⟨S1x1x64, .f32⟩
  | .hbm, ⟨113, _⟩ => ⟨S192x1x64, .f32⟩
  | .hbm, ⟨114, _⟩ => ⟨S192x1x64, .f32⟩
  | .hbm, ⟨115, _⟩ => ⟨S192x1x64, .f32⟩
  | .hbm, ⟨116, _⟩ => ⟨S1x10240, .f32⟩
  | .hbm, ⟨117, _⟩ => ⟨S192x1x64, .f32⟩
  | .hbm, ⟨118, _⟩ => ⟨S192x1x64, .f32⟩
  | .hbm, ⟨119, _⟩ => ⟨S192x64x128, .bf16⟩
  | .hbm, ⟨120, _⟩ => ⟨S192x8x128, .bf16⟩
  | .hbm, ⟨121, _⟩ => ⟨S192x8x128, .bf16⟩
  | .hbm, ⟨122, _⟩ => ⟨S192x8192, .fp8e4m3⟩
  | .local _ .vmem, ⟨0, _⟩ => ⟨S192x8192, .f32⟩
  | .local _ .vmem, ⟨1, _⟩ => ⟨S192x1, .f32⟩
  | .local _ .vmem, ⟨2, _⟩ => ⟨S8192x10240, .fp8e4m3⟩
  | .local _ .vmem, ⟨3, _⟩ => ⟨S1x10240, .f32⟩
  | .local _ .vmem, ⟨4, _⟩ => ⟨S192x1x64, .f32⟩
  | .local _ .vmem, ⟨5, _⟩ => ⟨S192x1x64, .f32⟩
  | .local _ .vmem, ⟨6, _⟩ => ⟨S192x64x128, .bf16⟩
  | .local _ .vmem, ⟨7, _⟩ => ⟨S192x8x128, .bf16⟩
  | .local _ .vmem, ⟨8, _⟩ => ⟨S192x8x128, .bf16⟩
  | .local _ .vmem, ⟨9, _⟩ => ⟨S192x8192, .fp8e4m3⟩
  | _, _ => ⟨S192x1x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_cst_8 : Ref sig .tc := ⟨.hbm, 47, rfl⟩
abbrev main_call0_v0 : Ref sig .tc := ⟨.hbm, 48, rfl⟩
abbrev main_call0_v1 : Ref sig .tc := ⟨.hbm, 49, rfl⟩
abbrev main_v33 : Ref sig .tc := ⟨.hbm, 50, rfl⟩
abbrev main_cst_9 : Ref sig .tc := ⟨.hbm, 51, rfl⟩
abbrev main_v34 : Ref sig .tc := ⟨.hbm, 52, rfl⟩
abbrev main_v35 : Ref sig .tc := ⟨.hbm, 53, rfl⟩
abbrev main_cst_10 : Ref sig .tc := ⟨.hbm, 54, rfl⟩
abbrev main_v36 : Ref sig .tc := ⟨.hbm, 55, rfl⟩
abbrev main_v37 : Ref sig .tc := ⟨.hbm, 56, rfl⟩
abbrev main_cst_11 : Ref sig .tc := ⟨.hbm, 57, rfl⟩
abbrev main_v38 : Ref sig .tc := ⟨.hbm, 58, rfl⟩
abbrev main_v39 : Ref sig .tc := ⟨.hbm, 59, rfl⟩
abbrev main_cst_12 : Ref sig .tc := ⟨.hbm, 60, rfl⟩
abbrev main_call1_v0 : Ref sig .tc := ⟨.hbm, 61, rfl⟩
abbrev main_call1_v1 : Ref sig .tc := ⟨.hbm, 62, rfl⟩
abbrev main_v40 : Ref sig .tc := ⟨.hbm, 63, rfl⟩
abbrev main_cst_13 : Ref sig .tc := ⟨.hbm, 64, rfl⟩
abbrev main_call2_v0 : Ref sig .tc := ⟨.hbm, 65, rfl⟩
abbrev main_call2_v1 : Ref sig .tc := ⟨.hbm, 66, rfl⟩
abbrev main_v41 : Ref sig .tc := ⟨.hbm, 67, rfl⟩
abbrev main_v42 : Ref sig .tc := ⟨.hbm, 68, rfl⟩
abbrev main_cst_14 : Ref sig .tc := ⟨.hbm, 69, rfl⟩
abbrev main_v43 : Ref sig .tc := ⟨.hbm, 70, rfl⟩
abbrev main_v44 : Ref sig .tc := ⟨.hbm, 71, rfl⟩
abbrev main_cst_15 : Ref sig .tc := ⟨.hbm, 72, rfl⟩
abbrev main_v45 : Ref sig .tc := ⟨.hbm, 73, rfl⟩
abbrev main_v46 : Ref sig .tc := ⟨.hbm, 74, rfl⟩
abbrev main_cst_16 : Ref sig .tc := ⟨.hbm, 75, rfl⟩
abbrev main_v47 : Ref sig .tc := ⟨.hbm, 76, rfl⟩
abbrev main_v48 : Ref sig .tc := ⟨.hbm, 77, rfl⟩
abbrev main_cst_17 : Ref sig .tc := ⟨.hbm, 78, rfl⟩
abbrev main_call3_v0 : Ref sig .tc := ⟨.hbm, 79, rfl⟩
abbrev main_call3_v1 : Ref sig .tc := ⟨.hbm, 80, rfl⟩
abbrev main_v49 : Ref sig .tc := ⟨.hbm, 81, rfl⟩
abbrev main_cst_18 : Ref sig .tc := ⟨.hbm, 82, rfl⟩
abbrev main_call4_v0 : Ref sig .tc := ⟨.hbm, 83, rfl⟩
abbrev main_call4_v1 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_cst_19 : Ref sig .tc := ⟨.hbm, 88, rfl⟩
abbrev main_cst_20 : Ref sig .tc := ⟨.hbm, 89, rfl⟩
abbrev main_call5_v0 : Ref sig .tc := ⟨.hbm, 90, rfl⟩
abbrev main_call5_v1 : Ref sig .tc := ⟨.hbm, 91, rfl⟩
abbrev main_call5_v2 : Ref sig .tc := ⟨.hbm, 92, rfl⟩
abbrev main_call5_v3 : Ref sig .tc := ⟨.hbm, 93, rfl⟩
abbrev main_call5_v4 : Ref sig .tc := ⟨.hbm, 94, rfl⟩
abbrev main_v53 : Ref sig .tc := ⟨.hbm, 95, rfl⟩
abbrev main_v54 : Ref sig .tc := ⟨.hbm, 96, rfl⟩
abbrev main_cst_21 : Ref sig .tc := ⟨.hbm, 97, rfl⟩
abbrev main_v55 : Ref sig .tc := ⟨.hbm, 98, rfl⟩
abbrev main_v56 : Ref sig .tc := ⟨.hbm, 99, rfl⟩
abbrev main_cst_22 : Ref sig .tc := ⟨.hbm, 100, rfl⟩
abbrev main_v57 : Ref sig .tc := ⟨.hbm, 101, rfl⟩
abbrev main_v58 : Ref sig .tc := ⟨.hbm, 102, rfl⟩
abbrev main_cst_23 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_cst_24 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73_0 : Ref sig .tc := ⟨.hbm, 119, rfl⟩
abbrev main_v73_1 : Ref sig .tc := ⟨.hbm, 120, rfl⟩
abbrev main_v73_2 : Ref sig .tc := ⟨.hbm, 121, rfl⟩
abbrev main_v73_3 : Ref sig .tc := ⟨.hbm, 122, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S192x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S192x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x10240 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x10240 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S192x1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S192x1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S192x64x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S192x8x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S192x8x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S192x8192 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.KernelRuns.lean ====
/- The kernel as machine words: when each branch of the body is taken, and the memrefs the body is called with. -/
module

public import proofs.«01_k».proof.Proof.Gen.Kernel.Frame
public import proofs.«01_k».proof.Proof.Gen.Kernel.Skeleton
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Body

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (Pipeline.RDat.FramePost.arr_in h c 2 rfl).trans ((hA c 2).trans (V_main_arg2 m c)),
      ((h c).2 main_arg3 (Pipeline.mem_restRefs_of main_arg3 (by decide) (by decide))).trans (V_main_arg3 m c),
      (Pipeline.RDat.FramePost.arr_in h c 4 rfl).trans ((hA c 4).trans (V_main_arg4 m c))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 10 = 0 :=
  (fun t => by
    have ht : t.val < 10 := Nat.lt_of_lt_of_eq t.isLt N_0
    have e0 : (grid0.coords t 0).val = t.val / 1 % 10 := Pipeline.Grid.coords_val t 0 (by decide) rfl
    simp only [cond0_0, k0_cond1, e0]
    word_cmp
   : ∀ t : Fin grid0.N, cond0_0 (grid0.coords t) ↔ t.val % 10 = 0)

/-- The condition of the body's `scf.if` 1 (`k0_h2`), from the grid coordinates (the skeleton's scalar
    chain substituted). -/
abbrev cond0_1 (i : grid0.Coords) : Prop := k0_cond2 i = 1#1
/-- It holds at the points before point 8 — decided over the grid. -/
theorem hcond0_1 : ∀ t : Fin cfg0.N, cond0_1 (grid0.coords t) ↔ t.val < 8 :=
  (by decide +kernel : ∀ t : Fin grid0.N, cond0_1 (grid0.coords t) ↔ t.val < 8)

/-- The condition of the body's `scf.if` 2 (`k0_h3`), from the grid coordinates (the skeleton's scalar
    chain substituted). -/
abbrev cond0_2 (i : grid0.Coords) : Prop := k0_cond3 i = 1#1
/-- It holds at point 8 only — by arithmetic of the point. -/
theorem hcond0_2 : ∀ t : Fin cfg0.N, cond0_2 (grid0.coords t) ↔ t.val % 10 = 8 :=
  (fun t => by
    have ht : t.val < 10 := Nat.lt_of_lt_of_eq t.isLt N_0
    have e0 : (grid0.coords t 0).val = t.val / 1 % 10 := Pipeline.Grid.coords_val t 0 (by decide) rfl
    simp only [cond0_2, k0_cond3, e0]
    word_cmp
   : ∀ t : Fin grid0.N, cond0_2 (grid0.coords t) ↔ t.val % 10 = 8)

/-- The condition of the body's `scf.if` 3 (`k0_h4`), from the grid coordinates (the skeleton's scalar
    chain substituted). -/
abbrev cond0_3 (i : grid0.Coords) : Prop := k0_cond4 i = 1#1
/-- It holds at the last point only — by arithmetic of the point. -/
theorem hcond0_3 : ∀ t : Fin cfg0.N, cond0_3 (grid0.coords t) ↔ t.val % 10 = 9 :=
  (fun t => by
    have ht : t.val < 10 := Nat.lt_of_lt_of_eq t.isLt N_0
    have e0 : (grid0.coords t 0).val = t.val / 1 % 10 := Pipeline.Grid.coords_val t 0 (by decide) rfl
    simp only [cond0_3, k0_cond4, e0]
    word_cmp
   : ∀ t : Fin grid0.N, cond0_3 (grid0.coords t) ↔ t.val % 10 = 9)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S192x8192 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x8192 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8192x1024 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S192x1 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S192x8x128 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S192x8x128 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S192x8x128 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S192x8192 .fp8e4m3 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S192x1 .f32 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S192x128 .f32 := Memref.whole cc0_scratch0
abbrev scM0_1 : Memref sig .tc .vmem S192x128 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Body

end
-- ==== Proof.KernelRunA.lean ====
/- The kernel's body as machine words, run once at the first point: every access is in bounds and every memref is handed back. -/
module

public import proofs.«01_k».proof.Proof.KernelRuns

@[expose] public section

-- membership in a rectangle of production extents (`View.cover_of_tiled`): the elaborator's structural look
-- recurses once per coordinate of the long axes
set_option maxRecDepth 16384

noncomputable section

namespace Cert.Kernel.Body

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

-- (the run's proof term is large: checking it walks past the default budget)
set_option maxHeartbeats 1000000 in
/-- The body's triple IN CASE A (`scf.if` 0 taken, `scf.if` 1 taken, `scf.if` 2 not taken, `scf.if` 3 not taken: points 0): on whole staging memrefs — the inputs' at their contents,
    the FORGOTTEN outputs' (6, 7, 8, 9, 10) at anything, handed back at some contents nothing names —
    the body runs to the continuation holding the inputs' as they were, the scratch at some contents: the printed functions are their skeletons (the skeletons),
    which `sl_exec` runs  — each `scf.if` decided by the case's hypotheses `hc·`. -/
theorem kernelRun0_A (c : Dev nD) (i : grid0.Coords) (arg1 : Memref sig .tc .vmem S192x8192 .bf16) (harg1 : arg1.IsWhole) (arg2 : Memref sig .tc .vmem S1x8192 .f32) (harg2 : arg2.IsWhole) (arg3 : Memref sig .tc .vmem S8192x1024 .fp8e4m3) (harg3 : arg3.IsWhole) (arg4 : Memref sig .tc .vmem S1x1024 .f32) (harg4 : arg4.IsWhole) (arg5 : Memref sig .tc .vmem S192x1 .i32) (harg5 : arg5.IsWhole) (arg6 : Memref sig .tc .vmem S1x128 .f32) (harg6 : arg6.IsWhole) (arg7 : Memref sig .tc .vmem S192x8x128 .bf16) (harg7 : arg7.IsWhole) (arg8 : Memref sig .tc .vmem S192x8x128 .bf16) (harg8 : arg8.IsWhole) (arg9 : Memref sig .tc .vmem S192x8x128 .bf16) (harg9 : arg9.IsWhole) (arg10 : Memref sig .tc .vmem S192x8192 .fp8e4m3) (harg10 : arg10.IsWhole) (arg11 : Memref sig .tc .vmem S192x1 .f32) (harg11 : arg11.IsWhole) (arg12 : Memref sig .tc .vmem S192x128 .f32) (harg12 : arg12.IsWhole) (arg13 : Memref sig .tc .vmem S192x128 .f32) (harg13 : arg13.IsWhole) (hc0 : cond0_0 i) (hc1 : cond0_1 i) (hc2 : ¬cond0_2 i) (hc3 : ¬cond0_3 i)
    (x0 : Vec F S192x8192 .bf16) (x1 : Vec F S1x8192 .f32) (x2 : Vec F S8192x1024 .fp8e4m3) (x3 : Vec F S1x1024 .f32) (x4 : Vec F S192x1 .i32) (x5 : Vec F S1x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc0_rmsnorm_fp8_qkv_rope i arg1 harg1 arg2 harg2 arg3 harg3 arg4 harg4 arg5 harg5 arg6 harg6 arg7 harg7 arg8 harg8 arg9 harg9 arg10 harg10 arg11 harg11 arg12 harg12 arg13 harg13) K := by
    intro E K
    simp only [cc0_rmsnorm_fp8_qkv_rope_eq_skeleton]; unfold cc0_rmsnorm_fp8_qkv_rope_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [HS0]
    · iexists _, _; isplitr; swap; · iexact HS0
      ipureintro; rfl
    iexists _, _; isplitr; swap; · iexact HS1
    ipureintro; rfl

end Cert.Kernel.Body

end
-- ==== Proof.KernelRunB.lean ====
/- The kernel's body as machine words, run once at points 1 to 7: every access is in bounds and every memref is handed back. -/
module

public import proofs.«01_k».proof.Proof.KernelRunA

@[expose] public section

-- membership in a rectangle of production extents (`View.cover_of_tiled`): the elaborator's structural look
-- recurses once per coordinate of the long axes
set_option maxRecDepth 16384

noncomputable section

namespace Cert.Kernel.Body

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

-- (the run's proof term is large: checking it walks past the default budget)
set_option maxHeartbeats 1000000 in
/-- The body's triple IN CASE B (`scf.if` 0 not taken, `scf.if` 1 taken, `scf.if` 2 not taken, `scf.if` 3 not taken: points 1, 2, … 7: 7 of 10): on whole staging memrefs — the inputs' at their contents,
    the FORGOTTEN outputs' (6, 7, 8, 9, 10) at anything, handed back at some contents nothing names —
    the body runs to the continuation holding the inputs' as they were, the scratch at some contents: the printed functions are their skeletons (the skeletons),
    which `sl_exec` runs  — each `scf.if` decided by the case's hypotheses `hc·`. -/
theorem kernelRun0_B (c : Dev nD) (i : grid0.Coords) (arg1 : Memref sig .tc .vmem S192x8192 .bf16) (harg1 : arg1.IsWhole) (arg2 : Memref sig .tc .vmem S1x8192 .f32) (harg2 : arg2.IsWhole) (arg3 : Memref sig .tc .vmem S8192x1024 .fp8e4m3) (harg3 : arg3.IsWhole) (arg4 : Memref sig .tc .vmem S1x1024 .f32) (harg4 : arg4.IsWhole) (arg5 : Memref sig .tc .vmem S192x1 .i32) (harg5 : arg5.IsWhole) (arg6 : Memref sig .tc .vmem S1x128 .f32) (harg6 : arg6.IsWhole) (arg7 : Memref sig .tc .vmem S192x8x128 .bf16) (harg7 : arg7.IsWhole) (arg8 : Memref sig .tc .vmem S192x8x128 .bf16) (harg8 : arg8.IsWhole) (arg9 : Memref sig .tc .vmem S192x8x128 .bf16) (harg9 : arg9.IsWhole) (arg10 : Memref sig .tc .vmem S192x8192 .fp8e4m3) (harg10 : arg10.IsWhole) (arg11 : Memref sig .tc .vmem S192x1 .f32) (harg11 : arg11.IsWhole) (arg12 : Memref sig .tc .vmem S192x128 .f32) (harg12 : arg12.IsWhole) (arg13 : Memref sig .tc .vmem S192x128 .f32) (harg13 : arg13.IsWhole) (hc0 : ¬cond0_0 i) (hc1 : cond0_1 i) (hc2 : ¬cond0_2 i) (hc3 : ¬cond0_3 i)
    (x0 : Vec F S192x8192 .bf16) (x1 : Vec F S1x8192 .f32) (x2 : Vec F S8192x1024 .fp8e4m3) (x3 : Vec F S1x1024 .f32) (x4 : Vec F S192x1 .i32) (x5 : Vec F S1x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc0_rmsnorm_fp8_qkv_rope i arg1 harg1 arg2 harg2 arg3 harg3 arg4 harg4 arg5 harg5 arg6 harg6 arg7 harg7 arg8 harg8 arg9 harg9 arg10 harg10 arg11 harg11 arg12 harg12 arg13 harg13) K := by
    intro E K
    simp only [cc0_rmsnorm_fp8_qkv_rope_eq_skeleton]; unfold cc0_rmsnorm_fp8_qkv_rope_skel
    simp only [k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [HS0]
    · iexists _, _; isplitr; swap; · iexact HS0
      ipureintro; rfl
    iexists _, _; isplitr; swap; · iexact HS1
    ipureintro; rfl

end Cert.Kernel.Body

end
-- ==== Proof.KernelRunC.lean ====
/- The kernel's body as machine words, run once at point 8: every access is in bounds and every memref is handed back. -/
module

public import proofs.«01_k».proof.Proof.KernelRunB

@[expose] public section

-- membership in a rectangle of production extents (`View.cover_of_tiled`): the elaborator's structural look
-- recurses once per coordinate of the long axes
set_option maxRecDepth 16384

noncomputable section

namespace Cert.Kernel.Body

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

-- (the run's proof term is large: checking it walks past the default budget)
set_option maxHeartbeats 1000000 in
/-- The body's triple IN CASE C (`scf.if` 0 not taken, `scf.if` 1 not taken, `scf.if` 2 taken, `scf.if` 3 not taken: points 8): on whole staging memrefs — the inputs' at their contents,
    the FORGOTTEN outputs' (6, 7, 8, 9, 10) at anything, handed back at some contents nothing names —
    the body runs to the continuation holding the inputs' as they were, the scratch at some contents: the printed functions are their skeletons (the skeletons),
    which `sl_exec` runs  — each `scf.if` decided by the case's hypotheses `hc·`. -/
theorem kernelRun0_C (c : Dev nD) (i : grid0.Coords) (arg1 : Memref sig .tc .vmem S192x8192 .bf16) (harg1 : arg1.IsWhole) (arg2 : Memref sig .tc .vmem S1x8192 .f32) (harg2 : arg2.IsWhole) (arg3 : Memref sig .tc .vmem S8192x1024 .fp8e4m3) (harg3 : arg3.IsWhole) (arg4 : Memref sig .tc .vmem S1x1024 .f32) (harg4 : arg4.IsWhole) (arg5 : Memref sig .tc .vmem S192x1 .i32) (harg5 : arg5.IsWhole) (arg6 : Memref sig .tc .vmem S1x128 .f32) (harg6 : arg6.IsWhole) (arg7 : Memref sig .tc .vmem S192x8x128 .bf16) (harg7 : arg7.IsWhole) (arg8 : Memref sig .tc .vmem S192x8x128 .bf16) (harg8 : arg8.IsWhole) (arg9 : Memref sig .tc .vmem S192x8x128 .bf16) (harg9 : arg9.IsWhole) (arg10 : Memref sig .tc .vmem S192x8192 .fp8e4m3) (harg10 : arg10.IsWhole) (arg11 : Memref sig .tc .vmem S192x1 .f32) (harg11 : arg11.IsWhole) (arg12 : Memref sig .tc .vmem S192x128 .f32) (harg12 : arg12.IsWhole) (arg13 : Memref sig .tc .vmem S192x128 .f32) (harg13 : arg13.IsWhole) (hc0 : ¬cond0_0 i) (hc1 : ¬cond0_1 i) (hc2 : cond0_2 i) (hc3 : ¬cond0_3 i)
    (x0 : Vec F S192x8192 .bf16) (x1 : Vec F S1x8192 .f32) (x2 : Vec F S8192x1024 .fp8e4m3) (x3 : Vec F S1x1024 .f32) (x4 : Vec F S192x1 .i32) (x5 : Vec F S1x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc0_rmsnorm_fp8_qkv_rope i arg1 harg1 arg2 harg2 arg3 harg3 arg4 harg4 arg5 harg5 arg6 harg6 arg7 harg7 arg8 harg8 arg9 harg9 arg10 harg10 arg11 harg11 arg12 harg12 arg13 harg13) K := by
    intro E K
    simp only [cc0_rmsnorm_fp8_qkv_rope_eq_skeleton]; unfold cc0_rmsnorm_fp8_qkv_rope_skel
    simp only [k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [HS0]
    · iexists _, _; isplitr; swap; · iexact HS0
      ipureintro; rfl
    iexists _, _; isplitr; swap; · iexact HS1
    ipureintro; rfl

end Cert.Kernel.Body

end
-- ==== Proof.KernelRunD.lean ====
/- The kernel's body as machine words, run once at point 9: every access is in bounds and every memref is handed back. -/
module

public import proofs.«01_k».proof.Proof.KernelRunC

@[expose] public section

-- membership in a rectangle of production extents (`View.cover_of_tiled`): the elaborator's structural look
-- recurses once per coordinate of the long axes
set_option maxRecDepth 16384

noncomputable section

namespace Cert.Kernel.Body

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

-- (the run's proof term is large: checking it walks past the default budget)
set_option maxHeartbeats 1000000 in
/-- The body's triple IN CASE D (`scf.if` 0 not taken, `scf.if` 1 not taken, `scf.if` 2 not taken, `scf.if` 3 taken: points 9): on whole staging memrefs — the inputs' at their contents,
    the FORGOTTEN outputs' (6, 7, 8, 9, 10) at anything, handed back at some contents nothing names —
    the body runs to the continuation holding the inputs' as they were, the scratch at some contents: the printed functions are their skeletons (the skeletons),
    which `sl_exec` runs  — each `scf.if` decided by the case's hypotheses `hc·`. -/
theorem kernelRun0_D (c : Dev nD) (i : grid0.Coords) (arg1 : Memref sig .tc .vmem S192x8192 .bf16) (harg1 : arg1.IsWhole) (arg2 : Memref sig .tc .vmem S1x8192 .f32) (harg2 : arg2.IsWhole) (arg3 : Memref sig .tc .vmem S8192x1024 .fp8e4m3) (harg3 : arg3.IsWhole) (arg4 : Memref sig .tc .vmem S1x1024 .f32) (harg4 : arg4.IsWhole) (arg5 : Memref sig .tc .vmem S192x1 .i32) (harg5 : arg5.IsWhole) (arg6 : Memref sig .tc .vmem S1x128 .f32) (harg6 : arg6.IsWhole) (arg7 : Memref sig .tc .vmem S192x8x128 .bf16) (harg7 : arg7.IsWhole) (arg8 : Memref sig .tc .vmem S192x8x128 .bf16) (harg8 : arg8.IsWhole) (arg9 : Memref sig .tc .vmem S192x8x128 .bf16) (harg9 : arg9.IsWhole) (arg10 : Memref sig .tc .vmem S192x8192 .fp8e4m3) (harg10 : arg10.IsWhole) (arg11 : Memref sig .tc .vmem S192x1 .f32) (harg11 : arg11.IsWhole) (arg12 : Memref sig .tc .vmem S192x128 .f32) (harg12 : arg12.IsWhole) (arg13 : Memref sig .tc .vmem S192x128 .f32) (harg13 : arg13.IsWhole) (hc0 : ¬cond0_0 i) (hc1 : ¬cond0_1 i) (hc2 : ¬cond0_2 i) (hc3 : cond0_3 i)
    (x0 : Vec F S192x8192 .bf16) (x1 : Vec F S1x8192 .f32) (x2 : Vec F S8192x1024 .fp8e4m3) (x3 : Vec F S1x1024 .f32) (x4 : Vec F S192x1 .i32) (x5 : Vec F S1x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc0_rmsnorm_fp8_qkv_rope i arg1 harg1 arg2 harg2 arg3 harg3 arg4 harg4 arg5 harg5 arg6 harg6 arg7 harg7 arg8 harg8 arg9 harg9 arg10 harg10 arg11 harg11 arg12 harg12 arg13 harg13) K := by
    intro E K
    simp only [cc0_rmsnorm_fp8_qkv_rope_eq_skeleton]; unfold cc0_rmsnorm_fp8_qkv_rope_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [HS0]
    · iexists _, _; isplitr; swap; · iexact HS0
      ipureintro; rfl
    iexists _, _; isplitr; swap; · iexact HS1
    ipureintro; rfl

end Cert.Kernel.Body

end
-- ==== Proof.KernelFrame.lean ====
/- The frame of the kernel as machine words: it terminates, leaves its arguments alone and no semaphore raised. -/
module

public import proofs.«01_k».proof.Proof.KernelRunD
public import Idealize.ShloMosaic.Lib.Claim

@[expose] public section

-- membership in a rectangle of production extents (`View.cover_of_tiled`): the elaborator's structural look
-- recurses once per coordinate of the long axes
set_option maxRecDepth 16384

noncomputable section

namespace Cert.Kernel.Body

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (6, 7, 8, 9, 10): nothing reads what the kernel leaves in them, so nothing
    of it is named (Lib/Pipeline/Dat.lean `Dat.toRForget`). -/
def forgets0 : Fin 11 → Bool := fun w => w.val == 6 || w.val == 7 || w.val == 8 || w.val == 9 || w.val == 10

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
/-- What a point leaves in the buffer of the gain. -/
theorem after0_1 (c : Dev nD) (t : Fin cfg0.N) : (dats m 0 c).after 1 t = iblk m c 1 t := by dsimp only [dats]
/-- What a point leaves in the buffer of the weights. -/
theorem after0_2 (c : Dev nD) (t : Fin cfg0.N) : (dats m 0 c).after 2 t = iblk m c 2 t := by dsimp only [dats]
/-- What a point leaves in the buffer of the weight scales. -/
theorem after0_3 (c : Dev nD) (t : Fin cfg0.N) : (dats m 0 c).after 3 t = iblk m c 3 t := by dsimp only [dats]
/-- What a point leaves in the buffer of the positions. -/
theorem after0_4 (c : Dev nD) (t : Fin cfg0.N) : (dats m 0 c).after 4 t = iblk m c 4 t := by dsimp only [dats]
/-- What a point leaves in the buffer of the frequencies. -/
theorem after0_5 (c : Dev nD) (t : Fin cfg0.N) : (dats m 0 c).after 5 t = iblk m c 5 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- What a point finds in the buffer of the gain. -/
theorem before0_1 (c : Dev nD) (t : Fin cfg0.N) (d) : (dats m 0 c).before 1 t d = iblk m c 1 t :=
  before0_1_of m (dats m 0 c) (A_eq m c 1) (after0_1 m c) t d
/-- What a point finds in the buffer of the weights. -/
theorem before0_2 (c : Dev nD) (t : Fin cfg0.N) (d) : (dats m 0 c).before 2 t d = iblk m c 2 t :=
  before0_2_of m (dats m 0 c) (A_eq m c 2) (after0_2 m c) t d
/-- What a point finds in the buffer of the weight scales. -/
theorem before0_3 (c : Dev nD) (t : Fin cfg0.N) (d) : (dats m 0 c).before 3 t d = iblk m c 3 t :=
  before0_3_of m (dats m 0 c) (A_eq m c 3) (after0_3 m c) t d
/-- What a point finds in the buffer of the positions. -/
theorem before0_4 (c : Dev nD) (t : Fin cfg0.N) (d) : (dats m 0 c).before 4 t d = iblk m c 4 t :=
  before0_4_of m (dats m 0 c) (A_eq m c 4) (after0_4 m c) t d
/-- What a point finds in the buffer of the frequencies. -/
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d))

set_option maxHeartbeats 4800000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 10 := lt_of_lt_of_eq t.isLt (show cfg0.N = 10 from N_0)
  by_cases h0 : t.val % 10 = 0
  · by_cases h1 : t.val < 8
    · by_cases h2 : t.val % 10 = 8
      · exfalso; omega
      · by_cases h3 : t.val % 10 = 9
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
          iapply ((kernelRun0_A c (grid0.coords t) _ _ _ _ _ _ _ _ _ _ _ _ _ _ _ _ _ _ _ _ _ _ _ _ _ _ ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t)) Set.univ _)
          isplitl [H0]; · iexact H0
          isplitl [H1]; · iexact H1
          isplitl [H2]; · iexact H2
          isplitl [H3]; · iexact H3
          isplitl [H4]; · iexact H4
          isplitl [H5]; · iexact H5
          isplitl [H6]; · iexists _; iexact H6
          isplitl [H7]; · iexists _; iexact H7
          isplitl [H8]; · iexists _; iexact H8
          isplitl [H9]; · iexists _; iexact H9
          isplitl [H10]; · iexists _; iexact H10
          isplitl [HS0]; · iexact HS0
          isplitl [HS1]; · iexact HS1
          iintro ⟨H0, H1, H2, H3, H4, H5, H6, H7, H8, H9, H10, HS0, HS1⟩
          isplitl [HS0 HS1 Hg]
          · isplitl [HS0 HS1]
            · isplitl [HS0]
              · iexact HS0
              iexact HS1
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          iexact H10
    · exfalso; omega
  · by_cases h1 : t.val < 8
    · by_cases h2 : t.val % 10 = 8
      · exfalso; omega
      · by_cases h3 : t.val % 10 = 9
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
          iapply ((kernelRun0_B c (grid0.coords t) _ _ _ _ _ _ _ _ _ _ _ _ _ _ _ _ _ _ _ _ _ _ _ _ _ _ (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t)) Set.univ _)
          isplitl [H0]; · iexact H0
          isplitl [H1]; · iexact H1
          isplitl [H2]; · iexact H2
          isplitl [H3]; · iexact H3
          isplitl [H4]; · iexact H4
          isplitl [H5]; · iexact H5
          isplitl [H6]; · iexists _; iexact H6
          isplitl [H7]; · iexists _; iexact H7
          isplitl [H8]; · iexists _; iexact H8
          isplitl [H9]; · iexists _; iexact H9
          isplitl [H10]; · iexists _; iexact H10
          isplitl [HS0]; · iexact HS0
          isplitl [HS1]; · iexact HS1
          iintro ⟨H0, H1, H2, H3, H4, H5, H6, H7, H8, H9, H10, HS0, HS1⟩
          isplitl [HS0 HS1 Hg]
          · isplitl [HS0 HS1]
            · isplitl [HS0]
              · iexact HS0
              iexact HS1
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          iexact H10
    · by_cases h2 : t.val % 10 = 8
      · by_cases h3 : t.val % 10 = 9
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
          iapply ((kernelRun0_C c (grid0.coords t) _ _ _ _ _ _ _ _ _ _ _ _ _ _ _ _ _ _ _ _ _ _ _ _ _ _ (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t)) Set.univ _)
          isplitl [H0]; · iexact H0
          isplitl [H1]; · iexact H1
          isplitl [H2]; · iexact H2
          isplitl [H3]; · iexact H3
          isplitl [H4]; · iexact H4
          isplitl [H5]; · iexact H5
          isplitl [H6]; · iexists _; iexact H6
          isplitl [H7]; · iexists _; iexact H7
          isplitl [H8]; · iexists _; iexact H8
          isplitl [H9]; · iexists _; iexact H9
          isplitl [H10]; · iexists _; iexact H10
          isplitl [HS0]; · iexact HS0
          isplitl [HS1]; · iexact HS1
          iintro ⟨H0, H1, H2, H3, H4, H5, H6, H7, H8, H9, H10, HS0, HS1⟩
          isplitl [HS0 HS1 Hg]
          · isplitl [HS0 HS1]
            · isplitl [HS0]
              · iexact HS0
              iexact HS1
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          iexact H10
      · by_cases h3 : t.val % 10 = 9
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
          iapply ((kernelRun0_D c (grid0.coords t) _ _ _ _ _ _ _ _ _ _ _ _ _ _ _ _ _ _ _ _ _ _ _ _ _ _ (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t)) Set.univ _)
          isplitl [H0]; · iexact H0
          isplitl [H1]; · iexact H1
          isplitl [H2]; · iexact H2
          isplitl [H3]; · iexact H3
          isplitl [H4]; · iexact H4
          isplitl [H5]; · iexact H5
          isplitl [H6]; · iexists _; iexact H6
          isplitl [H7]; · iexists _; iexact H7
          isplitl [H8]; · iexists _; iexact H8
          isplitl [H9]; · iexists _; iexact H9
          isplitl [H10]; · iexists _; iexact H10
          isplitl [HS0]; · iexact HS0
          isplitl [HS1]; · iexact HS1
          iintro ⟨H0, H1, H2, H3, H4, H5, H6, H7, H8, H9, H10, HS0, HS1⟩
          isplitl [HS0 HS1 Hg]
          · isplitl [HS0 HS1]
            · isplitl [HS0]
              · iexact HS0
              iexact HS1
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          iexact H10
        · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 6, 7, 8, 9, 10) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Body.frame_of m ρ (fun c => (dats m 0 c).toRForget forgets0) (A_eq m) (run_main m ρ)

/-- THE FRAME: `Cert.quiescent_Kernel`'s statement (Defs.lean) at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel.Body

end
-- ==== Proof.IdealRuns.lean ====
/- The kernel's body: when each of its branches is taken, the memrefs it is called with, and names for what it leaves. -/
module

public import proofs.«01_k».proof.Proof.Gen.KernelIdeal.Frame
public import proofs.«01_k».proof.Proof.Gen.KernelIdeal.Skeleton
public import Idealize.ShloMosaic.Lib.Ring
public import Idealize.ShloMosaic.Lib.Tactic
public import Idealize.ShloMosaic.Lib.WordCmp
public import Idealize.ShloMosaic.Lib.Pipeline.ValueKit

@[expose] public section

-- membership in a rectangle of production extents (`View.cover_of_tiled`): the elaborator's structural look
-- recurses once per coordinate of the long axes
set_option maxRecDepth 16384

noncomputable section

namespace Cert.KernelIdeal.Body

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 10 = 0 :=
  (fun t => by
    have ht : t.val < 10 := Nat.lt_of_lt_of_eq t.isLt N_0
    have e0 : (grid0.coords t 0).val = t.val / 1 % 10 := Pipeline.Grid.coords_val t 0 (by decide) rfl
    simp only [cond0_0, k0_cond1, e0]
    word_cmp
   : ∀ t : Fin grid0.N, cond0_0 (grid0.coords t) ↔ t.val % 10 = 0)

/-- The condition of the body's `scf.if` 1 (`k0_h2`), from the grid coordinates (the skeleton's scalar
    chain substituted). -/
abbrev cond0_1 (i : grid0.Coords) : Prop := k0_cond2 i = 1#1
/-- It holds at the points before point 8 — decided over the grid. -/
theorem hcond0_1 : ∀ t : Fin cfg0.N, cond0_1 (grid0.coords t) ↔ t.val < 8 :=
  (by decide +kernel : ∀ t : Fin grid0.N, cond0_1 (grid0.coords t) ↔ t.val < 8)

/-- The condition of the body's `scf.if` 2 (`k0_h3`), from the grid coordinates (the skeleton's scalar
    chain substituted). -/
abbrev cond0_2 (i : grid0.Coords) : Prop := k0_cond3 i = 1#1
/-- It holds at point 8 only — by arithmetic of the point. -/
theorem hcond0_2 : ∀ t : Fin cfg0.N, cond0_2 (grid0.coords t) ↔ t.val % 10 = 8 :=
  (fun t => by
    have ht : t.val < 10 := Nat.lt_of_lt_of_eq t.isLt N_0
    have e0 : (grid0.coords t 0).val = t.val / 1 % 10 := Pipeline.Grid.coords_val t 0 (by decide) rfl
    simp only [cond0_2, k0_cond3, e0]
    word_cmp
   : ∀ t : Fin grid0.N, cond0_2 (grid0.coords t) ↔ t.val % 10 = 8)

/-- The condition of the body's `scf.if` 3 (`k0_h4`), from the grid coordinates (the skeleton's scalar
    chain substituted). -/
abbrev cond0_3 (i : grid0.Coords) : Prop := k0_cond4 i = 1#1
/-- It holds at the last point only — by arithmetic of the point. -/
theorem hcond0_3 : ∀ t : Fin cfg0.N, cond0_3 (grid0.coords t) ↔ t.val % 10 = 9 :=
  (fun t => by
    have ht : t.val < 10 := Nat.lt_of_lt_of_eq t.isLt N_0
    have e0 : (grid0.coords t 0).val = t.val / 1 % 10 := Pipeline.Grid.coords_val t 0 (by decide) rfl
    simp only [cond0_3, k0_cond4, e0]
    word_cmp
   : ∀ t : Fin grid0.N, cond0_3 (grid0.coords t) ↔ t.val % 10 = 9)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S192x8192 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x8192 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8192x1024 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S192x1 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S192x8x128 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S192x8x128 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S192x8x128 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S192x8192 .fp8e4m3 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S192x1 .f32 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S192x128 .f32 := Memref.whole cc0_scratch0
abbrev scM0_1 : Memref sig .tc .vmem S192x128 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## What the body leaves, by name -/

/-- The rectangle that is a whole buffer. -/
abbrev rX : Rect S192x8192 := Rect.unit (s := S192x8192) ![0, 0] S192x8192.size inb_S192x8192_S192x8192_0_0
abbrev rGain : Rect S1x8192 := Rect.unit (s := S1x8192) ![0, 0] S1x8192.size inb_S1x8192_S1x8192_0_0
abbrev rW : Rect S8192x1024 := Rect.unit (s := S8192x1024) ![0, 0] S8192x1024.size inb_S8192x1024_S8192x1024_0_0
abbrev rWs : Rect S1x1024 := Rect.unit (s := S1x1024) ![0, 0] S1x1024.size inb_S1x1024_S1x1024_0_0
abbrev rCol : Rect S192x1 := Rect.unit (s := S192x1) ![0, 0] S192x1.size inb_S192x1_S192x1_0_0
abbrev rFreq : Rect S1x128 := Rect.unit (s := S1x128) ![0, 0] S1x128.size inb_S1x128_S1x128_0_0
abbrev rTab : Rect S192x128 := Rect.unit (s := S192x128) ![0, 0] S192x128.size inb_S192x128_S192x128_0_0
/-- Two neighbouring heads of a block of eight. -/
abbrev rHead0 : Rect S192x8x128 := Rect.unit (s := S192x8x128) ![0, 0, 0] S192x2x128.size inb_S192x8x128_S192x2x128_0_0_0
abbrev rHead2 : Rect S192x8x128 := Rect.unit (s := S192x8x128) ![0, 2, 0] S192x2x128.size inb_S192x8x128_S192x2x128_0_2_0
abbrev rHead4 : Rect S192x8x128 := Rect.unit (s := S192x8x128) ![0, 4, 0] S192x2x128.size inb_S192x8x128_S192x2x128_0_4_0
abbrev rHead6 : Rect S192x8x128 := Rect.unit (s := S192x8x128) ![0, 6, 0] S192x2x128.size inb_S192x8x128_S192x2x128_0_6_0

/-- The float constant that the amax is compared with. -/
abbrev zeroF : F .f32 := Scalar.ofBits .f32 0x00000000#32

/-- The quantiser's scales from the activations and the gain. -/
def scalesV (x : Vec F S192x8192 .bf16) (g : Vec F S1x8192 .f32) : FVec F S192x1 .f32 :=
  k0_pay27 (k0_pay23 x g) (k0_pay24 x g) (k0_pay25 x g) zeroF

/-- The quantiser's codes from the activations and the gain. -/
def codesV (x : Vec F S192x8192 .bf16) (g : Vec F S1x8192 .f32) : FVec F S192x8192 .fp8e4m3 :=
  k0_pay28 (k0_pay22 x g) (k0_pay23 x g) (k0_pay24 x g) (k0_pay25 x g) zeroF

/-- The rotary table of cosines. -/
def cosV (p : Vec F S192x1 .i32) (f : Vec F S1x128 .f32) : FVec F S192x128 .f32 := k0_pay1 (k0_pay29 p f)

/-- The rotary table of sines, the first half negated. -/
def sinV (p : Vec F S192x1 .i32) (f : Vec F S1x128 .f32) : FVec F S192x128 .f32 := k0_pay2 (k0_pay29 p f)

/-- Eight rotated heads: what a point leaves in the block of q or of k. -/
def ropeV (a : Vec F S192x8192 .fp8e4m3) (w : Vec F S8192x1024 .fp8e4m3) (s : Vec F S192x1 .f32) (ws : Vec F S1x1024 .f32)
    (co : Vec F S192x128 .f32) (si : Vec F S192x128 .f32) : Vec F S192x8x128 .bf16 :=
  View.canon [⟨rHead6, k0_pay14 (k0_pay32 (k0_pay10 a w s ws) co si) (k0_pay33 (k0_pay11 a w s ws) co si)⟩,
    ⟨rHead4, k0_pay13 (k0_pay30 (k0_pay8 a w s ws) co si) (k0_pay31 (k0_pay9 a w s ws) co si)⟩,
    ⟨rHead2, k0_pay12 (k0_pay35 (k0_pay6 a w s ws) co si) (k0_pay36 (k0_pay7 a w s ws) co si)⟩,
    ⟨rHead0, k0_pay34 (k0_pay4 a w s ws) (k0_pay5 a w s ws) co si⟩]

/-- Eight plain heads: what the last point leaves in the block of v. -/
def plainV (a : Vec F S192x8192 .fp8e4m3) (w : Vec F S8192x1024 .fp8e4m3) (s : Vec F S192x1 .f32) (ws : Vec F S1x1024 .f32) :
    Vec F S192x8x128 .bf16 :=
  View.canon [⟨rHead6, k0_pay21 a w s ws⟩, ⟨rHead4, k0_pay20 a w s ws⟩, ⟨rHead2, k0_pay19 a w s ws⟩, ⟨rHead0, k0_pay18 a w s ws⟩]

/-- The four pairs of heads cover a block. -/
theorem cover_heads (w6 : rHead6.shape.Idx → Elt F .bf16) (w4 : rHead4.shape.Idx → Elt F .bf16)
    (w2 : rHead2.shape.Idx → Elt F .bf16) (w0 : rHead0.shape.Idx → Elt F .bf16) (y : S192x8x128.Idx) :
    ∃ p ∈ ([⟨rHead6, w6⟩, ⟨rHead4, w4⟩, ⟨rHead2, w2⟩, ⟨rHead0, w0⟩] : List (View.Piece (Elt F) S192x8x128 .bf16)), y ∈ p.1.set :=
  View.cover_of_tiled [⟨rHead6, w6⟩, ⟨rHead4, w4⟩, ⟨rHead2, w2⟩, ⟨rHead0, w0⟩] ![192, 2, 128] (by rfl) y

/-- A piece that is the whole buffer covers it. -/
theorem cover_codes (w : rX.shape.Idx → Elt F .fp8e4m3) (y : S192x8192.Idx) :
    ∃ p ∈ ([⟨rX, w⟩] : List (View.Piece (Elt F) S192x8192 .fp8e4m3)), y ∈ p.1.set :=
  View.cover_of_tiled [⟨rX, w⟩] ![192, 8192] (by rfl) y
/-- One store covers the block of the scales. -/
theorem cover_scales (w : rCol.shape.Idx → Elt F .f32) (y : S192x1.Idx) :
    ∃ p ∈ ([⟨rCol, w⟩] : List (View.Piece (Elt F) S192x1 .f32)), y ∈ p.1.set :=
  View.cover_of_tiled [⟨rCol, w⟩] ![192, 1] (by rfl) y
/-- One store covers a table. -/
theorem cover_tab (w : rTab.shape.Idx → Elt F .f32) (y : S192x128.Idx) :
    ∃ p ∈ ([⟨rTab, w⟩] : List (View.Piece (Elt F) S192x128 .f32)), y ∈ p.1.set :=
  View.cover_of_tiled [⟨rTab, w⟩] ![192, 128] (by rfl) y

/-! Equal operands leave equal contents: how a run's loads are replaced by what they read. -/

/-- The codes of equal operands are equal. -/
theorem codes_congr {x' x : Vec F S192x8192 .bf16} {g' g : Vec F S1x8192 .f32} (hx : x' = x) (hg : g' = g) :
    k0_pay28 (k0_pay22 x' g') (k0_pay23 x' g') (k0_pay24 x' g') (k0_pay25 x' g') zeroF = codesV x g := by
  subst hx hg; rfl
/-- The scales of equal operands are equal. -/
theorem scales_congr {x' x : Vec F S192x8192 .bf16} {g' g : Vec F S1x8192 .f32} (hx : x' = x) (hg : g' = g) :
    k0_pay27 (k0_pay23 x' g') (k0_pay24 x' g') (k0_pay25 x' g') zeroF = scalesV x g := by
  subst hx hg; rfl
/-- The cosines of equal operands are equal. -/
theorem cos_congr {p' p : Vec F S192x1 .i32} {f' f : Vec F S1x128 .f32} (hp : p' = p) (hf : f' = f) :
    k0_pay1 (k0_pay29 p' f') = cosV p f := by subst hp hf; rfl
/-- The sines of equal operands are equal. -/
theorem sin_congr {p' p : Vec F S192x1 .i32} {f' f : Vec F S1x128 .f32} (hp : p' = p) (hf : f' = f) :
    k0_pay2 (k0_pay29 p' f') = sinV p f := by subst hp hf; rfl
/-- The rotated heads of equal operands are equal. -/
theorem rope_congr {a' a : Vec F S192x8192 .fp8e4m3} {w' w : Vec F S8192x1024 .fp8e4m3} {s' s : Vec F S192x1 .f32}
    {ws' ws : Vec F S1x1024 .f32} {co' co si' si : Vec F S192x128 .f32}
    (ha : a' = a) (hw : w' = w) (hs : s' = s) (hws : ws' = ws) (hco : co' = co) (hsi : si' = si) :
    ropeV a' w' s' ws' co' si' = ropeV a w s ws co si := by subst ha hw hs hws hco hsi; rfl
/-- The plain heads of equal operands are equal. -/
theorem plain_congr {a' a : Vec F S192x8192 .fp8e4m3} {w' w : Vec F S8192x1024 .fp8e4m3} {s' s : Vec F S192x1 .f32}
    {ws' ws : Vec F S1x1024 .f32} (ha : a' = a) (hw : w' = w) (hs : s' = s) (hws : ws' = ws) :
    plainV a' w' s' ws' = plainV a w s ws := by subst ha hw hs hws; rfl

end Cert.KernelIdeal.Body

end
-- ==== Proof.IdealRunA.lean ====
/- The kernel's body, case A: At the first point the body writes the codes, the scales and the rotary tables, and eight heads of q. -/
module

public import proofs.«01_k».proof.Proof.IdealRuns

@[expose] public section

-- membership in a rectangle of production extents (`View.cover_of_tiled`): the elaborator's structural look
-- recurses once per coordinate of the long axes
set_option maxRecDepth 16384

noncomputable section

namespace Cert.KernelIdeal.Body

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At the first point the body writes the codes, the scales and the rotary tables, and eight heads of q. Everything else it hands back as it found it. -/
theorem runA (c : Dev nD) (i : grid0.Coords) (arg1 : Memref sig .tc .vmem S192x8192 .bf16) (harg1 : arg1.IsWhole) (arg2 : Memref sig .tc .vmem S1x8192 .f32) (harg2 : arg2.IsWhole) (arg3 : Memref sig .tc .vmem S8192x1024 .fp8e4m3) (harg3 : arg3.IsWhole) (arg4 : Memref sig .tc .vmem S1x1024 .f32) (harg4 : arg4.IsWhole) (arg5 : Memref sig .tc .vmem S192x1 .i32) (harg5 : arg5.IsWhole) (arg6 : Memref sig .tc .vmem S1x128 .f32) (harg6 : arg6.IsWhole) (arg7 : Memref sig .tc .vmem S192x8x128 .bf16) (harg7 : arg7.IsWhole) (arg8 : Memref sig .tc .vmem S192x8x128 .bf16) (harg8 : arg8.IsWhole) (arg9 : Memref sig .tc .vmem S192x8x128 .bf16) (harg9 : arg9.IsWhole) (arg10 : Memref sig .tc .vmem S192x8192 .fp8e4m3) (harg10 : arg10.IsWhole) (arg11 : Memref sig .tc .vmem S192x1 .f32) (harg11 : arg11.IsWhole) (arg12 : Memref sig .tc .vmem S192x128 .f32) (harg12 : arg12.IsWhole) (arg13 : Memref sig .tc .vmem S192x128 .f32) (harg13 : arg13.IsWhole)
    (hc0 : cond0_0 i) (hc1 : cond0_1 i) (hc2 : ¬ cond0_2 i) (hc3 : ¬ cond0_3 i)
    (x : Vec F S192x8192 .bf16) (g : Vec F S1x8192 .f32) (w : Vec F S8192x1024 .fp8e4m3) (ws : Vec F S1x1024 .f32) (p : Vec F S192x1 .i32) (f : Vec F S1x128 .f32) (q : Vec F S192x8x128 .bf16) (k : Vec F S192x8x128 .bf16) (v : Vec F S192x8x128 .bf16) (a : Vec F S192x8192 .fp8e4m3) (s : Vec F S192x1 .f32) (co : Vec F S192x128 .f32) (si : Vec F S192x128 .f32) (E : Set ℕ) (K : PUnit → sProp 𝕄) :
    iprop(owns (c : Thread nD τ) arg1 fullShare x ∗ owns (c : Thread nD τ) arg2 fullShare g ∗ owns (c : Thread nD τ) arg3 fullShare w ∗ owns (c : Thread nD τ) arg4 fullShare ws ∗ owns (c : Thread nD τ) arg5 fullShare p ∗ owns (c : Thread nD τ) arg6 fullShare f ∗ owns (c : Thread nD τ) arg7 fullShare q ∗ owns (c : Thread nD τ) arg8 fullShare k ∗ owns (c : Thread nD τ) arg9 fullShare v ∗ owns (c : Thread nD τ) arg10 fullShare a ∗ owns (c : Thread nD τ) arg11 fullShare s ∗ owns (c : Thread nD τ) arg12 fullShare co ∗ owns (c : Thread nD τ) arg13 fullShare si
        ∗ (iprop(owns (c : Thread nD τ) arg1 fullShare (x) ∗ owns (c : Thread nD τ) arg2 fullShare (g) ∗ owns (c : Thread nD τ) arg3 fullShare (w) ∗ owns (c : Thread nD τ) arg4 fullShare (ws) ∗ owns (c : Thread nD τ) arg5 fullShare (p) ∗ owns (c : Thread nD τ) arg6 fullShare (f) ∗ owns (c : Thread nD τ) arg7 fullShare (ropeV (codesV x g) w (scalesV x g) ws (cosV p f) (sinV p f)) ∗ owns (c : Thread nD τ) arg8 fullShare (k) ∗ owns (c : Thread nD τ) arg9 fullShare (v) ∗ owns (c : Thread nD τ) arg10 fullShare (codesV x g) ∗ owns (c : Thread nD τ) arg11 fullShare (scalesV x g) ∗ owns (c : Thread nD τ) arg12 fullShare (cosV p f) ∗ owns (c : Thread nD τ) arg13 fullShare (sinV p f)) -∗ K ⟨⟩))
      ⊢ wp frame (wpE (defs₀ (F := F)) Variants.none c none) E (cc0_rmsnorm_fp8_qkv_rope i arg1 harg1 arg2 harg2 arg3 harg3 arg4 harg4 arg5 harg5 arg6 harg6 arg7 harg7 arg8 harg8 arg9 harg9 arg10 harg10 arg11 harg11 arg12 harg12 arg13 harg13) K := by
  simp only [cc0_rmsnorm_fp8_qkv_rope_eq_skeleton]; unfold cc0_rmsnorm_fp8_qkv_rope_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12
  sl_exec (disch := first | sl_exact hc0 | sl_exact hc1 | sl_exact hc2 | sl_exact hc3)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr
    swap; · iexact H6
    ipureintro
    exact (View.read_writes_eq_canon _ _ _ (cover_heads _ _ _ _)).trans (rope_congr ((View.readCov_unit_lit _ _ _ (by decide)).trans (codes_congr ((View.ld_unit_lit _ _ (by decide)).trans hf0) ((View.ld_unit_lit _ _ (by decide)).trans hf1))) ((View.ld_unit_lit _ _ (by decide)).trans hf2) ((View.readCov_unit_lit _ _ _ (by decide)).trans (scales_congr ((View.ld_unit_lit _ _ (by decide)).trans hf0) ((View.ld_unit_lit _ _ (by decide)).trans hf1))) ((View.ld_unit_lit _ _ (by decide)).trans hf3) ((View.readCov_unit_lit _ _ _ (by decide)).trans (cos_congr ((View.ld_unit_lit _ _ (by decide)).trans hf4) ((View.ld_unit_lit _ _ (by decide)).trans hf5))) ((View.readCov_unit_lit _ _ _ (by decide)).trans (sin_congr ((View.ld_unit_lit _ _ (by decide)).trans hf4) ((View.ld_unit_lit _ _ (by decide)).trans hf5))))
  isplitl [H7]
  · iexists _; isplitr; · ipureintro; exact harg8.read_unread _
    iexact H7
  isplitl [H8]
  · iexists _; isplitr; · ipureintro; exact harg9.read_unread _
    iexact H8
  isplitl [H9]
  · iexists _; isplitr
    swap; · iexact H9
    ipureintro
    exact (View.read_writes_eq_canon _ _ _ (cover_codes _)).trans ((View.canon_cons_unit_lit _ _ _ (by decide)).trans (codes_congr ((View.ld_unit_lit _ _ (by decide)).trans hf0) ((View.ld_unit_lit _ _ (by decide)).trans hf1)))
  isplitl [H10]
  · iexists _; isplitr
    swap; · iexact H10
    ipureintro
    exact (View.read_writes_eq_canon _ _ _ (cover_scales _)).trans ((View.canon_cons_unit_lit _ _ _ (by decide)).trans (scales_congr ((View.ld_unit_lit _ _ (by decide)).trans hf0) ((View.ld_unit_lit _ _ (by decide)).trans hf1)))
  isplitl [H11]
  · iexists _; isplitr
    swap; · iexact H11
    ipureintro
    exact (View.read_writes_eq_canon _ _ _ (cover_tab _)).trans ((View.canon_cons_unit_lit _ _ _ (by decide)).trans (cos_congr ((View.ld_unit_lit _ _ (by decide)).trans hf4) ((View.ld_unit_lit _ _ (by decide)).trans hf5)))
  iexists _; isplitr
  swap; · iexact H12
  ipureintro
  exact (View.read_writes_eq_canon _ _ _ (cover_tab _)).trans ((View.canon_cons_unit_lit _ _ _ (by decide)).trans (sin_congr ((View.ld_unit_lit _ _ (by decide)).trans hf4) ((View.ld_unit_lit _ _ (by decide)).trans hf5)))

end Cert.KernelIdeal.Body

end
-- ==== Proof.IdealRunB.lean ====
/- The kernel's body, case B: At points 1 to 7 the body writes eight heads of q, from the codes, the scales and the tables it finds. -/
module

public import proofs.«01_k».proof.Proof.IdealRunA

@[expose] public section

-- membership in a rectangle of production extents (`View.cover_of_tiled`): the elaborator's structural look
-- recurses once per coordinate of the long axes
set_option maxRecDepth 16384

noncomputable section

namespace Cert.KernelIdeal.Body

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At points 1 to 7 the body writes eight heads of q, from the codes, the scales and the tables it finds. Everything else it hands back as it found it. -/
theorem runB (c : Dev nD) (i : grid0.Coords) (arg1 : Memref sig .tc .vmem S192x8192 .bf16) (harg1 : arg1.IsWhole) (arg2 : Memref sig .tc .vmem S1x8192 .f32) (harg2 : arg2.IsWhole) (arg3 : Memref sig .tc .vmem S8192x1024 .fp8e4m3) (harg3 : arg3.IsWhole) (arg4 : Memref sig .tc .vmem S1x1024 .f32) (harg4 : arg4.IsWhole) (arg5 : Memref sig .tc .vmem S192x1 .i32) (harg5 : arg5.IsWhole) (arg6 : Memref sig .tc .vmem S1x128 .f32) (harg6 : arg6.IsWhole) (arg7 : Memref sig .tc .vmem S192x8x128 .bf16) (harg7 : arg7.IsWhole) (arg8 : Memref sig .tc .vmem S192x8x128 .bf16) (harg8 : arg8.IsWhole) (arg9 : Memref sig .tc .vmem S192x8x128 .bf16) (harg9 : arg9.IsWhole) (arg10 : Memref sig .tc .vmem S192x8192 .fp8e4m3) (harg10 : arg10.IsWhole) (arg11 : Memref sig .tc .vmem S192x1 .f32) (harg11 : arg11.IsWhole) (arg12 : Memref sig .tc .vmem S192x128 .f32) (harg12 : arg12.IsWhole) (arg13 : Memref sig .tc .vmem S192x128 .f32) (harg13 : arg13.IsWhole)
    (hc0 : ¬ cond0_0 i) (hc1 : cond0_1 i) (hc2 : ¬ cond0_2 i) (hc3 : ¬ cond0_3 i)
    (x : Vec F S192x8192 .bf16) (g : Vec F S1x8192 .f32) (w : Vec F S8192x1024 .fp8e4m3) (ws : Vec F S1x1024 .f32) (p : Vec F S192x1 .i32) (f : Vec F S1x128 .f32) (q : Vec F S192x8x128 .bf16) (k : Vec F S192x8x128 .bf16) (v : Vec F S192x8x128 .bf16) (a : Vec F S192x8192 .fp8e4m3) (s : Vec F S192x1 .f32) (co : Vec F S192x128 .f32) (si : Vec F S192x128 .f32) (E : Set ℕ) (K : PUnit → sProp 𝕄) :
    iprop(owns (c : Thread nD τ) arg1 fullShare x ∗ owns (c : Thread nD τ) arg2 fullShare g ∗ owns (c : Thread nD τ) arg3 fullShare w ∗ owns (c : Thread nD τ) arg4 fullShare ws ∗ owns (c : Thread nD τ) arg5 fullShare p ∗ owns (c : Thread nD τ) arg6 fullShare f ∗ owns (c : Thread nD τ) arg7 fullShare q ∗ owns (c : Thread nD τ) arg8 fullShare k ∗ owns (c : Thread nD τ) arg9 fullShare v ∗ owns (c : Thread nD τ) arg10 fullShare a ∗ owns (c : Thread nD τ) arg11 fullShare s ∗ owns (c : Thread nD τ) arg12 fullShare co ∗ owns (c : Thread nD τ) arg13 fullShare si
        ∗ (iprop(owns (c : Thread nD τ) arg1 fullShare (x) ∗ owns (c : Thread nD τ) arg2 fullShare (g) ∗ owns (c : Thread nD τ) arg3 fullShare (w) ∗ owns (c : Thread nD τ) arg4 fullShare (ws) ∗ owns (c : Thread nD τ) arg5 fullShare (p) ∗ owns (c : Thread nD τ) arg6 fullShare (f) ∗ owns (c : Thread nD τ) arg7 fullShare (ropeV a w s ws co si) ∗ owns (c : Thread nD τ) arg8 fullShare (k) ∗ owns (c : Thread nD τ) arg9 fullShare (v) ∗ owns (c : Thread nD τ) arg10 fullShare (a) ∗ owns (c : Thread nD τ) arg11 fullShare (s) ∗ owns (c : Thread nD τ) arg12 fullShare (co) ∗ owns (c : Thread nD τ) arg13 fullShare (si)) -∗ K ⟨⟩))
      ⊢ wp frame (wpE (defs₀ (F := F)) Variants.none c none) E (cc0_rmsnorm_fp8_qkv_rope i arg1 harg1 arg2 harg2 arg3 harg3 arg4 harg4 arg5 harg5 arg6 harg6 arg7 harg7 arg8 harg8 arg9 harg9 arg10 harg10 arg11 harg11 arg12 harg12 arg13 harg13) K := by
  simp only [cc0_rmsnorm_fp8_qkv_rope_eq_skeleton]; unfold cc0_rmsnorm_fp8_qkv_rope_skel
  simp only [k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12
  sl_exec (disch := first | sl_exact hc0 | sl_exact hc1 | sl_exact hc2 | sl_exact hc3)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr
    swap; · iexact H6
    ipureintro
    exact (View.read_writes_eq_canon _ _ _ (cover_heads _ _ _ _)).trans (rope_congr ((View.ld_unit_lit _ _ (by decide)).trans hf9) ((View.ld_unit_lit _ _ (by decide)).trans hf2) ((View.ld_unit_lit _ _ (by decide)).trans hf10) ((View.ld_unit_lit _ _ (by decide)).trans hf3) ((View.ld_unit_lit _ _ (by decide)).trans hf11) ((View.ld_unit_lit _ _ (by decide)).trans hf12))
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  iexists _; isplitr; · ipureintro; exact harg13.read_unread _
  iexact H12

end Cert.KernelIdeal.Body

end
-- ==== Proof.IdealRunC.lean ====
/- The kernel's body, case C: At point 8 the body writes the eight heads of k. -/
module

public import proofs.«01_k».proof.Proof.IdealRunB

@[expose] public section

-- membership in a rectangle of production extents (`View.cover_of_tiled`): the elaborator's structural look
-- recurses once per coordinate of the long axes
set_option maxRecDepth 16384

noncomputable section

namespace Cert.KernelIdeal.Body

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At point 8 the body writes the eight heads of k. Everything else it hands back as it found it. -/
theorem runC (c : Dev nD) (i : grid0.Coords) (arg1 : Memref sig .tc .vmem S192x8192 .bf16) (harg1 : arg1.IsWhole) (arg2 : Memref sig .tc .vmem S1x8192 .f32) (harg2 : arg2.IsWhole) (arg3 : Memref sig .tc .vmem S8192x1024 .fp8e4m3) (harg3 : arg3.IsWhole) (arg4 : Memref sig .tc .vmem S1x1024 .f32) (harg4 : arg4.IsWhole) (arg5 : Memref sig .tc .vmem S192x1 .i32) (harg5 : arg5.IsWhole) (arg6 : Memref sig .tc .vmem S1x128 .f32) (harg6 : arg6.IsWhole) (arg7 : Memref sig .tc .vmem S192x8x128 .bf16) (harg7 : arg7.IsWhole) (arg8 : Memref sig .tc .vmem S192x8x128 .bf16) (harg8 : arg8.IsWhole) (arg9 : Memref sig .tc .vmem S192x8x128 .bf16) (harg9 : arg9.IsWhole) (arg10 : Memref sig .tc .vmem S192x8192 .fp8e4m3) (harg10 : arg10.IsWhole) (arg11 : Memref sig .tc .vmem S192x1 .f32) (harg11 : arg11.IsWhole) (arg12 : Memref sig .tc .vmem S192x128 .f32) (harg12 : arg12.IsWhole) (arg13 : Memref sig .tc .vmem S192x128 .f32) (harg13 : arg13.IsWhole)
    (hc0 : ¬ cond0_0 i) (hc1 : ¬ cond0_1 i) (hc2 : cond0_2 i) (hc3 : ¬ cond0_3 i)
    (x : Vec F S192x8192 .bf16) (g : Vec F S1x8192 .f32) (w : Vec F S8192x1024 .fp8e4m3) (ws : Vec F S1x1024 .f32) (p : Vec F S192x1 .i32) (f : Vec F S1x128 .f32) (q : Vec F S192x8x128 .bf16) (k : Vec F S192x8x128 .bf16) (v : Vec F S192x8x128 .bf16) (a : Vec F S192x8192 .fp8e4m3) (s : Vec F S192x1 .f32) (co : Vec F S192x128 .f32) (si : Vec F S192x128 .f32) (E : Set ℕ) (K : PUnit → sProp 𝕄) :
    iprop(owns (c : Thread nD τ) arg1 fullShare x ∗ owns (c : Thread nD τ) arg2 fullShare g ∗ owns (c : Thread nD τ) arg3 fullShare w ∗ owns (c : Thread nD τ) arg4 fullShare ws ∗ owns (c : Thread nD τ) arg5 fullShare p ∗ owns (c : Thread nD τ) arg6 fullShare f ∗ owns (c : Thread nD τ) arg7 fullShare q ∗ owns (c : Thread nD τ) arg8 fullShare k ∗ owns (c : Thread nD τ) arg9 fullShare v ∗ owns (c : Thread nD τ) arg10 fullShare a ∗ owns (c : Thread nD τ) arg11 fullShare s ∗ owns (c : Thread nD τ) arg12 fullShare co ∗ owns (c : Thread nD τ) arg13 fullShare si
        ∗ (iprop(owns (c : Thread nD τ) arg1 fullShare (x) ∗ owns (c : Thread nD τ) arg2 fullShare (g) ∗ owns (c : Thread nD τ) arg3 fullShare (w) ∗ owns (c : Thread nD τ) arg4 fullShare (ws) ∗ owns (c : Thread nD τ) arg5 fullShare (p) ∗ owns (c : Thread nD τ) arg6 fullShare (f) ∗ owns (c : Thread nD τ) arg7 fullShare (q) ∗ owns (c : Thread nD τ) arg8 fullShare (ropeV a w s ws co si) ∗ owns (c : Thread nD τ) arg9 fullShare (v) ∗ owns (c : Thread nD τ) arg10 fullShare (a) ∗ owns (c : Thread nD τ) arg11 fullShare (s) ∗ owns (c : Thread nD τ) arg12 fullShare (co) ∗ owns (c : Thread nD τ) arg13 fullShare (si)) -∗ K ⟨⟩))
      ⊢ wp frame (wpE (defs₀ (F := F)) Variants.none c none) E (cc0_rmsnorm_fp8_qkv_rope i arg1 harg1 arg2 harg2 arg3 harg3 arg4 harg4 arg5 harg5 arg6 harg6 arg7 harg7 arg8 harg8 arg9 harg9 arg10 harg10 arg11 harg11 arg12 harg12 arg13 harg13) K := by
  simp only [cc0_rmsnorm_fp8_qkv_rope_eq_skeleton]; unfold cc0_rmsnorm_fp8_qkv_rope_skel
  simp only [k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12
  sl_exec (disch := first | sl_exact hc0 | sl_exact hc1 | sl_exact hc2 | sl_exact hc3)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr
    swap; · iexact H7
    ipureintro
    exact (View.read_writes_eq_canon _ _ _ (cover_heads _ _ _ _)).trans (rope_congr ((View.ld_unit_lit _ _ (by decide)).trans hf9) ((View.ld_unit_lit _ _ (by decide)).trans hf2) ((View.ld_unit_lit _ _ (by decide)).trans hf10) ((View.ld_unit_lit _ _ (by decide)).trans hf3) ((View.ld_unit_lit _ _ (by decide)).trans hf11) ((View.ld_unit_lit _ _ (by decide)).trans hf12))
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  iexists _; isplitr; · ipureintro; exact harg13.read_unread _
  iexact H12

end Cert.KernelIdeal.Body

end
-- ==== Proof.IdealRunD.lean ====
/- The kernel's body, case D: At point 9 the body writes the eight heads of v. -/
module

public import proofs.«01_k».proof.Proof.IdealRunC

@[expose] public section

-- membership in a rectangle of production extents (`View.cover_of_tiled`): the elaborator's structural look
-- recurses once per coordinate of the long axes
set_option maxRecDepth 16384

noncomputable section

namespace Cert.KernelIdeal.Body

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At point 9 the body writes the eight heads of v. Everything else it hands back as it found it. -/
theorem runD (c : Dev nD) (i : grid0.Coords) (arg1 : Memref sig .tc .vmem S192x8192 .bf16) (harg1 : arg1.IsWhole) (arg2 : Memref sig .tc .vmem S1x8192 .f32) (harg2 : arg2.IsWhole) (arg3 : Memref sig .tc .vmem S8192x1024 .fp8e4m3) (harg3 : arg3.IsWhole) (arg4 : Memref sig .tc .vmem S1x1024 .f32) (harg4 : arg4.IsWhole) (arg5 : Memref sig .tc .vmem S192x1 .i32) (harg5 : arg5.IsWhole) (arg6 : Memref sig .tc .vmem S1x128 .f32) (harg6 : arg6.IsWhole) (arg7 : Memref sig .tc .vmem S192x8x128 .bf16) (harg7 : arg7.IsWhole) (arg8 : Memref sig .tc .vmem S192x8x128 .bf16) (harg8 : arg8.IsWhole) (arg9 : Memref sig .tc .vmem S192x8x128 .bf16) (harg9 : arg9.IsWhole) (arg10 : Memref sig .tc .vmem S192x8192 .fp8e4m3) (harg10 : arg10.IsWhole) (arg11 : Memref sig .tc .vmem S192x1 .f32) (harg11 : arg11.IsWhole) (arg12 : Memref sig .tc .vmem S192x128 .f32) (harg12 : arg12.IsWhole) (arg13 : Memref sig .tc .vmem S192x128 .f32) (harg13 : arg13.IsWhole)
    (hc0 : ¬ cond0_0 i) (hc1 : ¬ cond0_1 i) (hc2 : ¬ cond0_2 i) (hc3 : cond0_3 i)
    (x : Vec F S192x8192 .bf16) (g : Vec F S1x8192 .f32) (w : Vec F S8192x1024 .fp8e4m3) (ws : Vec F S1x1024 .f32) (p : Vec F S192x1 .i32) (f : Vec F S1x128 .f32) (q : Vec F S192x8x128 .bf16) (k : Vec F S192x8x128 .bf16) (v : Vec F S192x8x128 .bf16) (a : Vec F S192x8192 .fp8e4m3) (s : Vec F S192x1 .f32) (co : Vec F S192x128 .f32) (si : Vec F S192x128 .f32) (E : Set ℕ) (K : PUnit → sProp 𝕄) :
    iprop(owns (c : Thread nD τ) arg1 fullShare x ∗ owns (c : Thread nD τ) arg2 fullShare g ∗ owns (c : Thread nD τ) arg3 fullShare w ∗ owns (c : Thread nD τ) arg4 fullShare ws ∗ owns (c : Thread nD τ) arg5 fullShare p ∗ owns (c : Thread nD τ) arg6 fullShare f ∗ owns (c : Thread nD τ) arg7 fullShare q ∗ owns (c : Thread nD τ) arg8 fullShare k ∗ owns (c : Thread nD τ) arg9 fullShare v ∗ owns (c : Thread nD τ) arg10 fullShare a ∗ owns (c : Thread nD τ) arg11 fullShare s ∗ owns (c : Thread nD τ) arg12 fullShare co ∗ owns (c : Thread nD τ) arg13 fullShare si
        ∗ (iprop(owns (c : Thread nD τ) arg1 fullShare (x) ∗ owns (c : Thread nD τ) arg2 fullShare (g) ∗ owns (c : Thread nD τ) arg3 fullShare (w) ∗ owns (c : Thread nD τ) arg4 fullShare (ws) ∗ owns (c : Thread nD τ) arg5 fullShare (p) ∗ owns (c : Thread nD τ) arg6 fullShare (f) ∗ owns (c : Thread nD τ) arg7 fullShare (q) ∗ owns (c : Thread nD τ) arg8 fullShare (k) ∗ owns (c : Thread nD τ) arg9 fullShare (plainV a w s ws) ∗ owns (c : Thread nD τ) arg10 fullShare (a) ∗ owns (c : Thread nD τ) arg11 fullShare (s) ∗ owns (c : Thread nD τ) arg12 fullShare (co) ∗ owns (c : Thread nD τ) arg13 fullShare (si)) -∗ K ⟨⟩))
      ⊢ wp frame (wpE (defs₀ (F := F)) Variants.none c none) E (cc0_rmsnorm_fp8_qkv_rope i arg1 harg1 arg2 harg2 arg3 harg3 arg4 harg4 arg5 harg5 arg6 harg6 arg7 harg7 arg8 harg8 arg9 harg9 arg10 harg10 arg11 harg11 arg12 harg12 arg13 harg13) K := by
  simp only [cc0_rmsnorm_fp8_qkv_rope_eq_skeleton]; unfold cc0_rmsnorm_fp8_qkv_rope_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12
  sl_exec (disch := first | sl_exact hc0 | sl_exact hc1 | sl_exact hc2 | sl_exact hc3)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr
    swap; · iexact H8
    ipureintro
    exact (View.read_writes_eq_canon _ _ _ (cover_heads _ _ _ _)).trans (plain_congr ((View.ld_unit_lit _ _ (by decide)).trans hf9) ((View.ld_unit_lit _ _ (by decide)).trans hf2) ((View.ld_unit_lit _ _ (by decide)).trans hf10) ((View.ld_unit_lit _ _ (by decide)).trans hf3))
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  iexists _; isplitr; · ipureintro; exact harg13.read_unread _
  iexact H12

end Cert.KernelIdeal.Body

end
-- ==== Proof.IdealFrame.lean ====
/- The run of the whole kernel: what each grid point leaves in each buffer, and so what the run leaves in each array. -/
module

public import proofs.«01_k».proof.Proof.IdealRunD
public import Idealize.ShloMosaic.Lib.Claim

@[expose] public section

-- membership in a rectangle of production extents (`View.cover_of_tiled`): the elaborator's structural look
-- recurses once per coordinate of the long axes
set_option maxRecDepth 16384

noncomputable section

namespace Cert.KernelIdeal.Body

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the run computes, from the arrays as the region finds them -/

/-- The codes: the first point's. -/
def codesOf (c : Dev nD) : FVec F S192x8192 .fp8e4m3 := codesV (iblk m c 0 t0_0) (iblk m c 1 t0_0)
/-- The scales: the first point's. -/
def scalesOf (c : Dev nD) : FVec F S192x1 .f32 := scalesV (iblk m c 0 t0_0) (iblk m c 1 t0_0)
/-- The table of cosines: the first point's. -/
def cosOf (c : Dev nD) : FVec F S192x128 .f32 := cosV (iblk m c 4 t0_0) (iblk m c 5 t0_0)
/-- The table of signed sines: the first point's. -/
def sinOf (c : Dev nD) : FVec F S192x128 .f32 := sinV (iblk m c 4 t0_0) (iblk m c 5 t0_0)
/-- Eight rotated heads from the weight block of point `t`. -/
def ropeAt (c : Dev nD) (t : Fin cfg0.N) : Vec F S192x8x128 .bf16 :=
  ropeV (codesOf m c) (iblk m c 2 t) (scalesOf m c) (iblk m c 3 t) (cosOf m c) (sinOf m c)
/-- Eight plain heads from the weight block of point `t`. -/
def plainAt (c : Dev nD) (t : Fin cfg0.N) : Vec F S192x8x128 .bf16 :=
  plainV (codesOf m c) (iblk m c 2 t) (scalesOf m c) (iblk m c 3 t)

/-- The point whose q heads the staging buffer of q holds after point `t`: the last two points leave it alone. -/
def qPoint (t : Fin cfg0.N) : Fin cfg0.N := if t.val < 8 then t else t0_7

/-- What is carried from point to point besides the staging buffers: before the first point anything, afterwards the two tables. -/
def carried (c : Dev nD) (n : ℕ) : sProp 𝕄 :=
  if n = 0 then Pipeline.ΦA spec0 c
  else iprop(iprop(owns (c : Thread nD τ) scM0_0 fullShare (cosOf m c) ∗ owns (c : Thread nD τ) scM0_1 fullShare (sinOf m c)) ∗ (∃ r, prngReg c r))

/-- The proof data: the arrays as the region finds them, and what each point leaves in each staging buffer. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => ropeAt m c (qPoint t)
    | ⟨7, _⟩ => ropeAt m c t0_8
    | ⟨8, _⟩ => plainAt m c t0_9
    | ⟨9, _⟩ => codesOf m c
    | ⟨10, _⟩ => scalesOf m c
  Φ t := carried m c t.val
  q _ := fullShare
  owed _ := 0

/-- Every array is, at the start of the grid, as the host operations leave it. -/
theorem A_eq (c : Dev nD) (w : Fin cfg0.W) : (dats m 0 c).A w = V m c (Pipeline.arrRef spec0 w) := by
  dsimp only [dats]

/-- What a point leaves in the buffer of the input. -/
theorem after0_0 (c : Dev nD) (t : Fin cfg0.N) : (dats m 0 c).after 0 t = iblk m c 0 t := by dsimp only [dats]
/-- What a point leaves in the buffer of the gain. -/
theorem after0_1 (c : Dev nD) (t : Fin cfg0.N) : (dats m 0 c).after 1 t = iblk m c 1 t := by dsimp only [dats]
/-- What a point leaves in the buffer of the weights. -/
theorem after0_2 (c : Dev nD) (t : Fin cfg0.N) : (dats m 0 c).after 2 t = iblk m c 2 t := by dsimp only [dats]
/-- What a point leaves in the buffer of the weight scales. -/
theorem after0_3 (c : Dev nD) (t : Fin cfg0.N) : (dats m 0 c).after 3 t = iblk m c 3 t := by dsimp only [dats]
/-- What a point leaves in the buffer of the positions. -/
theorem after0_4 (c : Dev nD) (t : Fin cfg0.N) : (dats m 0 c).after 4 t = iblk m c 4 t := by dsimp only [dats]
/-- What a point leaves in the buffer of the frequencies. -/
theorem after0_5 (c : Dev nD) (t : Fin cfg0.N) : (dats m 0 c).after 5 t = iblk m c 5 t := by dsimp only [dats]
/-- What a point leaves in the buffer of the queries. -/
theorem after0_6 (c : Dev nD) (t : Fin cfg0.N) : (dats m 0 c).after 6 t = ropeAt m c (qPoint t) := by dsimp only [dats]
/-- What a point leaves in the buffer of the keys. -/
theorem after0_7 (c : Dev nD) (t : Fin cfg0.N) : (dats m 0 c).after 7 t = ropeAt m c t0_8 := by dsimp only [dats]
/-- What a point leaves in the buffer of the values. -/
theorem after0_8 (c : Dev nD) (t : Fin cfg0.N) : (dats m 0 c).after 8 t = plainAt m c t0_9 := by dsimp only [dats]
/-- What a point leaves in the buffer of the codes. -/
theorem after0_9 (c : Dev nD) (t : Fin cfg0.N) : (dats m 0 c).after 9 t = codesOf m c := by dsimp only [dats]
/-- What a point leaves in the buffer of the scales. -/
theorem after0_10 (c : Dev nD) (t : Fin cfg0.N) : (dats m 0 c).after 10 t = scalesOf m c := by dsimp only [dats]

/-- What a point finds in the buffer of the input: its block. -/
theorem before0_0 (c : Dev nD) (t : Fin cfg0.N) (d) : (dats m 0 c).before 0 t d = iblk m c 0 t :=
  before0_0_of m (dats m 0 c) (A_eq m c 0) (after0_0 m c) t d
/-- What a point finds in the buffer of the gain: its block. -/
theorem before0_1 (c : Dev nD) (t : Fin cfg0.N) (d) : (dats m 0 c).before 1 t d = iblk m c 1 t :=
  before0_1_of m (dats m 0 c) (A_eq m c 1) (after0_1 m c) t d
/-- What a point finds in the buffer of the weights: its block. -/
theorem before0_2 (c : Dev nD) (t : Fin cfg0.N) (d) : (dats m 0 c).before 2 t d = iblk m c 2 t :=
  before0_2_of m (dats m 0 c) (A_eq m c 2) (after0_2 m c) t d
/-- What a point finds in the buffer of the weight scales: its block. -/
theorem before0_3 (c : Dev nD) (t : Fin cfg0.N) (d) : (dats m 0 c).before 3 t d = iblk m c 3 t :=
  before0_3_of m (dats m 0 c) (A_eq m c 3) (after0_3 m c) t d
/-- What a point finds in the buffer of the positions: its block. -/
theorem before0_4 (c : Dev nD) (t : Fin cfg0.N) (d) : (dats m 0 c).before 4 t d = iblk m c 4 t :=
  before0_4_of m (dats m 0 c) (A_eq m c 4) (after0_4 m c) t d
/-- What a point finds in the buffer of the frequencies: its block. -/
theorem before0_5 (c : Dev nD) (t : Fin cfg0.N) (d) : (dats m 0 c).before 5 t d = iblk m c 5 t :=
  before0_5_of m (dats m 0 c) (A_eq m c 5) (after0_5 m c) t d

/-! ## Where the outputs are idle, and where they are written back -/

/-- A bit that is not one, tested against one. -/
theorem not_one_iff (b : BitVec 1) (h : ¬ b = 1#1) : (!(b == 1#1)) = true := by simp [h]
/-- A bit that is one, tested against one. -/
theorem one_iff (b : BitVec 1) (h : b = 1#1) : (!(b == 1#1)) = false := by simp [h]

/-- The points that do not write the queries. -/
theorem idle0_6 (t : Fin cfg0.N) (h : ¬ t.val < 8) : cfg0.idle 6 (cfg0.grid.coords t) = true :=
  not_one_iff (k0_cond2 (grid0.coords t)) fun e => h ((hcond0_1 t).mp e)
/-- The points that write the queries. -/
theorem live0_6 (t : Fin cfg0.N) (h : t.val < 8) : cfg0.idle 6 (cfg0.grid.coords t) = false :=
  one_iff (k0_cond2 (grid0.coords t)) ((hcond0_1 t).mpr h)
/-- The points that do not write the keys. -/
theorem idle0_7 (t : Fin cfg0.N) (h : ¬ t.val % 10 = 8) : cfg0.idle 7 (cfg0.grid.coords t) = true :=
  not_one_iff (k0_cond3 (grid0.coords t)) fun e => h ((hcond0_2 t).mp e)
/-- The points that write the keys. -/
theorem live0_7 (t : Fin cfg0.N) (h : t.val % 10 = 8) : cfg0.idle 7 (cfg0.grid.coords t) = false :=
  one_iff (k0_cond3 (grid0.coords t)) ((hcond0_2 t).mpr h)
/-- The points that do not write the values. -/
theorem idle0_8 (t : Fin cfg0.N) (h : ¬ t.val % 10 = 9) : cfg0.idle 8 (cfg0.grid.coords t) = true :=
  not_one_iff (k0_cond4 (grid0.coords t)) fun e => h ((hcond0_3 t).mp e)
/-- The points that write the values. -/
theorem live0_8 (t : Fin cfg0.N) (h : t.val % 10 = 9) : cfg0.idle 8 (cfg0.grid.coords t) = false :=
  one_iff (k0_cond4 (grid0.coords t)) ((hcond0_3 t).mpr h)
/-- The points that do not write the codes. -/
theorem idle0_9 (t : Fin cfg0.N) (h : ¬ t.val % 10 = 0) : cfg0.idle 9 (cfg0.grid.coords t) = true :=
  not_one_iff (k0_cond1 (grid0.coords t)) fun e => h ((hcond0_0 t).mp e)
/-- The points that write the codes. -/
theorem live0_9 (t : Fin cfg0.N) (h : t.val % 10 = 0) : cfg0.idle 9 (cfg0.grid.coords t) = false :=
  one_iff (k0_cond1 (grid0.coords t)) ((hcond0_0 t).mpr h)
/-- The points that do not write the scales. -/
theorem idle0_10 (t : Fin cfg0.N) (h : ¬ t.val % 10 = 0) : cfg0.idle 10 (cfg0.grid.coords t) = true :=
  not_one_iff (k0_cond1 (grid0.coords t)) fun e => h ((hcond0_0 t).mp e)
/-- The points that write the scales. -/
theorem live0_10 (t : Fin cfg0.N) (h : t.val % 10 = 0) : cfg0.idle 10 (cfg0.grid.coords t) = false :=
  one_iff (k0_cond1 (grid0.coords t)) ((hcond0_0 t).mpr h)

/-- The block of q moves on after each of the points 0 to 6, and the last block is written back at the end. -/
theorem flush0_6 : ∀ t : Fin cfg0.N, (cfg0.win 6).flush t = true ↔ (t.val < 7 ∨ t.val = 9) :=
  (by decide +kernel : ∀ t : Fin grid0.N, win0_6.flush t = true ↔ (t.val < 7 ∨ t.val = 9))

/-- A truth value equivalent to a false statement is false. -/
theorem bool_false {b : Bool} {p : Prop} (h : b = true ↔ p) (hp : ¬ p) : b = false := by
  cases b
  · rfl
  · exact absurd (h.mp rfl) hp

/-- An output that is live at `t0` and idle and not written back since: its buffer still holds what point `t0` left. -/
theorem before_held {c : Dev nD} (dat : Dat τ (Elt F) Unit ℕ (UR sig nD τ) ℕ cfg0 c) (w : Fin cfg0.W) (hw : (cfg0.win w).isOut = true)
    (hclip : ∀ (i : cfg0.grid.Coords) a, (cfg0.win w).clip i a = none) (t0 : Fin cfg0.N)
    (hlive : cfg0.idle w (cfg0.grid.coords t0) = false) :
    ∀ (n : ℕ) (t : Fin cfg0.N), t.val = t0.val + n + 1 →
      (∀ s : Fin cfg0.N, t0.val ≤ s.val → s.val < t.val → (cfg0.win w).flush s = false) →
      (∀ s : Fin cfg0.N, t0.val < s.val → s.val < t.val → cfg0.idle w (cfg0.grid.coords s) = true) →
      ∀ d, dat.before w t d = dat.after w t0 := by
  intro n
  induction n with
  | zero =>
    intro t ht hfl _ d
    have e : (⟨t.val - 1, Nat.lt_of_le_of_lt (Nat.sub_le _ _) t.isLt⟩ : Fin cfg0.N) = t0 := Fin.ext (by simp only; omega)
    rw [dat.before_of_pos w t (by omega) ((cfg0.win w).fetch_out hw t), e, hfl t0 (le_refl _) (by omega), if_neg Bool.false_ne_true]
    unfold Dat.left
    rw [hlive]
    unfold Dat.kept
    rw [Pipeline.fill_of_clip_none w _ (hclip _) d (dat.after w t0), Window.fill_cut]
  | succ n ih =>
    intro t ht hfl hid d
    have ht' : t.val ≠ 0 := by omega
    rw [dat.before_of_pos w t ht' ((cfg0.win w).fetch_out hw t),
      hfl ⟨t.val - 1, Nat.lt_of_le_of_lt (Nat.sub_le _ _) t.isLt⟩ (by simp only; omega) (by simp only; omega), if_neg Bool.false_ne_true]
    unfold Dat.left
    rw [hid ⟨t.val - 1, Nat.lt_of_le_of_lt (Nat.sub_le _ _) t.isLt⟩ (by simp only; omega) (by simp only; omega)]
    exact ih ⟨t.val - 1, Nat.lt_of_le_of_lt (Nat.sub_le _ _) t.isLt⟩ (by simp only; omega)
      (fun s h1 h2 => hfl s h1 (by simp only at h2; omega)) (fun s h1 h2 => hid s h1 (by simp only at h2; omega)) d

/-- There are ten grid points. -/
theorem val_lt (t : Fin cfg0.N) : t.val < 10 := lt_of_lt_of_eq t.isLt (show cfg0.N = 10 from N_0)

/-- After the first point the codes' buffer holds the codes, -/
theorem before0_9 (c : Dev nD) (t : Fin cfg0.N) (h : t.val ≠ 0) (d) : (dats m 0 c).before 9 t d = codesOf m c := by
  have hN := val_lt t
  have h0 : (t0_0 : Fin cfg0.N).val = 0 := rfl
  rw [before_held (dats m 0 c) 9 rfl (fun _ _ => rfl) t0_0 (live0_9 _ rfl) (t.val - 1) t (by omega)
    (fun s _ h2 => bool_false (flush0_9 s) (by omega)) (fun s h1 h2 => idle0_9 s (by omega)) d, after0_9]
/-- the scales' buffer the scales, -/
theorem before0_10 (c : Dev nD) (t : Fin cfg0.N) (h : t.val ≠ 0) (d) : (dats m 0 c).before 10 t d = scalesOf m c := by
  have hN := val_lt t
  have h0 : (t0_0 : Fin cfg0.N).val = 0 := rfl
  rw [before_held (dats m 0 c) 10 rfl (fun _ _ => rfl) t0_0 (live0_10 _ rfl) (t.val - 1) t (by omega)
    (fun s _ h2 => bool_false (flush0_10 s) (by omega)) (fun s h1 h2 => idle0_10 s (by omega)) d, after0_10]
/-- and at the last point the buffer of q still holds its last block, and the buffer of k what point 8 left. -/
theorem before0_6 (c : Dev nD) (t : Fin cfg0.N) (h : t.val = 9) (d) : (dats m 0 c).before 6 t d = ropeAt m c t0_7 := by
  have h0 : (t0_7 : Fin cfg0.N).val = 7 := rfl
  rw [before_held (dats m 0 c) 6 rfl (fun _ _ => rfl) t0_7 (live0_6 _ (by omega)) 1 t (by omega)
    (fun s _ h2 => bool_false (flush0_6 s) (by omega)) (fun s h1 h2 => idle0_6 s (by omega)) d, after0_6]
  rfl
/-- At the last point the buffer of the keys still holds the keys. -/
theorem before0_7 (c : Dev nD) (t : Fin cfg0.N) (h : t.val = 9) (d) : (dats m 0 c).before 7 t d = ropeAt m c t0_8 := by
  have h0 : (t0_8 : Fin cfg0.N).val = 8 := rfl
  rw [before_held (dats m 0 c) 7 rfl (fun _ _ => rfl) t0_8 (live0_7 _ (by omega)) 0 t (by omega)
    (fun s _ h2 => bool_false (flush0_7 s) (by omega)) (fun s h1 h2 => idle0_7 s (by omega)) d, after0_7]

/-! ## The body's obligation, point by point -/

/-- At a point that writes an output, its buffer is left with what the point computes. -/
theorem leaves_live {c : Dev nD} (dat : Dat τ (Elt F) Unit ℕ (UR sig nD τ) ℕ cfg0 c) (w : Fin cfg0.W) (t : Fin cfg0.N)
    (h : cfg0.idle w (cfg0.grid.coords t) = false) :
    dat.leavesExact w t = owns (c : Thread nD τ) ((cfg0.win w).stage (cfg0.slots t w)) fullShare (dat.after w t) := by
  unfold Dat.leavesExact; rw [h]
/-- At a point that writes an output back without computing it, its buffer is left with what it held. -/
theorem leaves_flush {c : Dev nD} (dat : Dat τ (Elt F) Unit ℕ (UR sig nD τ) ℕ cfg0 c) (w : Fin cfg0.W) (t : Fin cfg0.N)
    (h : cfg0.idle w (cfg0.grid.coords t) = true) (hf : (cfg0.win w).flush t = true) :
    dat.leavesExact w t = owns (c : Thread nD τ) ((cfg0.win w).stage (cfg0.slots t w)) fullShare (dat.after w t) := by
  unfold Dat.leavesExact; rw [h, hf]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

/-- Before the first point the two tables hold anything. -/
theorem phi_first (c : Dev nD) (t : Fin cfg0.N) (h : t.val = 0) : (dats m 0 c).Φ t.castSucc =
    iprop(iprop((∃ d, owns (c : Thread nD τ) scM0_0 fullShare d) ∗ (∃ d, owns (c : Thread nD τ) scM0_1 fullShare d)) ∗ (∃ r, prngReg c r)) := by
  rw [← PhiA0_eq]; show carried m c t.castSucc.val = _; unfold carried; rw [if_pos (by simpa using h)]
/-- Before every later point they hold the cosines and sines. -/
theorem phi_next (c : Dev nD) (t : Fin cfg0.N) (h : t.val ≠ 0) : (dats m 0 c).Φ t.castSucc =
    iprop(iprop(owns (c : Thread nD τ) scM0_0 fullShare (cosOf m c) ∗ owns (c : Thread nD τ) scM0_1 fullShare (sinOf m c)) ∗ (∃ r, prngReg c r)) := by
  show carried m c t.castSucc.val = _; unfold carried; rw [if_neg (by simpa using h)]
/-- After every point they hold the cosines and sines. -/
theorem phi_succ (c : Dev nD) (t : Fin cfg0.N) : (dats m 0 c).Φ t.succ =
    iprop(iprop(owns (c : Thread nD τ) scM0_0 fullShare (cosOf m c) ∗ owns (c : Thread nD τ) scM0_1 fullShare (sinOf m c)) ∗ (∃ r, prngReg c r)) := by
  show carried m c t.succ.val = _; unfold carried; rw [if_neg (by simp)]

set_option maxHeartbeats 1600000 in
/-- The body at the first point. -/
theorem soundA (c : Dev nD) (t : Fin cfg0.N) (h0 : t.val = 0) :
    bodyPre m c t ⊢ wp frame (wpE (defs₀ (F := F)) Variants.none c none) Set.univ (bodyAt0 t) (fun _ => bodyPost m c t) := by
  have hN := val_lt t
  obtain rfl : t = t0_0 := Fin.ext h0
  unfold bodyPre bodyPost bodyAt0
  simp only [before0_0, before0_1, before0_2, before0_3, before0_4, before0_5]
  rw [phi_succ, phi_first m c _ h0,
    show (dats m 0 c).owesAt () t0_0.succ = (dats m 0 c).owesAt () t0_0.castSucc from rfl]
  rw [leaves_live (dats m 0 c) 0 t0_0 (liveAt0_0 _), after0_0]
  rw [leaves_live (dats m 0 c) 1 t0_0 (liveAt0_1 _), after0_1]
  rw [leaves_live (dats m 0 c) 2 t0_0 (liveAt0_2 _), after0_2]
  rw [leaves_live (dats m 0 c) 3 t0_0 (liveAt0_3 _), after0_3]
  rw [leaves_live (dats m 0 c) 4 t0_0 (liveAt0_4 _), after0_4]
  rw [leaves_live (dats m 0 c) 5 t0_0 (liveAt0_5 _), after0_5]
  rw [leaves_live (dats m 0 c) 6 t0_0 (live0_6 _ (by omega)), after0_6]
  rw [Dat.leavesExact_idle (dats m 0 c) 7 t0_0 (idle0_7 _ (by omega)) (bool_false (flush0_7 _) (by omega))]
  rw [Dat.leavesExact_idle (dats m 0 c) 8 t0_0 (idle0_8 _ (by omega)) (bool_false (flush0_8 _) (by omega))]
  rw [leaves_live (dats m 0 c) 9 t0_0 (live0_9 _ (by omega)), after0_9]
  rw [leaves_live (dats m 0 c) 10 t0_0 (live0_10 _ (by omega)), after0_10]
  iintro ⟨⟨⟨⟨%ds0, HS0⟩, ⟨%ds1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (runA c (grid0.coords t0_0) _ _ _ _ _ _ _ _ _ _ _ _ _ _ _ _ _ _ _ _ _ _ _ _ _ _ ((hcond0_0 t0_0).mpr (by omega)) ((hcond0_1 t0_0).mpr (by omega)) (fun h => absurd ((hcond0_2 t0_0).mp h) (by omega)) (fun h => absurd ((hcond0_3 t0_0).mp h) (by omega)) (iblk m c 0 t0_0) (iblk m c 1 t0_0) (iblk m c 2 t0_0) (iblk m c 3 t0_0) (iblk m c 4 t0_0) (iblk m c 5 t0_0) ((dats m 0 c).before 6 t0_0 d6) ((dats m 0 c).before 7 t0_0 d7) ((dats m 0 c).before 8 t0_0 d8) ((dats m 0 c).before 9 t0_0 d9) ((dats m 0 c).before 10 t0_0 d10) ds0 ds1 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS0]; · iexact HS0
  isplitl [HS1]; · iexact HS1
  iintro ⟨H0, H1, H2, H3, H4, H5, H6, H7, H8, H9, H10, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexact H9
  iexact H10

set_option maxHeartbeats 1600000 in
/-- The body at points 1 to 7. -/
theorem soundB (c : Dev nD) (t : Fin cfg0.N) (h0 : t.val ≠ 0) (h1 : t.val < 8) :
    bodyPre m c t ⊢ wp frame (wpE (defs₀ (F := F)) Variants.none c none) Set.univ (bodyAt0 t) (fun _ => bodyPost m c t) := by
  have hN := val_lt t
  unfold bodyPre bodyPost bodyAt0
  simp only [before0_0, before0_1, before0_2, before0_3, before0_4, before0_5]
  rw [phi_succ, phi_next m c _ (by omega),
    show (dats m 0 c).owesAt () t.succ = (dats m 0 c).owesAt () t.castSucc from rfl]
  rw [leaves_live (dats m 0 c) 0 t (liveAt0_0 _), after0_0]
  rw [leaves_live (dats m 0 c) 1 t (liveAt0_1 _), after0_1]
  rw [leaves_live (dats m 0 c) 2 t (liveAt0_2 _), after0_2]
  rw [leaves_live (dats m 0 c) 3 t (liveAt0_3 _), after0_3]
  rw [leaves_live (dats m 0 c) 4 t (liveAt0_4 _), after0_4]
  rw [leaves_live (dats m 0 c) 5 t (liveAt0_5 _), after0_5]
  rw [leaves_live (dats m 0 c) 6 t (live0_6 _ (by omega)), after0_6, show qPoint t = t from if_pos h1]
  rw [Dat.leavesExact_idle (dats m 0 c) 7 t (idle0_7 _ (by omega)) (bool_false (flush0_7 _) (by omega))]
  rw [Dat.leavesExact_idle (dats m 0 c) 8 t (idle0_8 _ (by omega)) (bool_false (flush0_8 _) (by omega))]
  rw [Dat.leavesExact_idle (dats m 0 c) 9 t (idle0_9 _ (by omega)) (bool_false (flush0_9 _) (by omega))]
  rw [Dat.leavesExact_idle (dats m 0 c) 10 t (idle0_10 _ (by omega)) (bool_false (flush0_10 _) (by omega))]
  have e9 := fun d => before0_9 m c t (by omega) d
  have e10 := fun d => before0_10 m c t (by omega) d
  simp only [e9, e10]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (runB c (grid0.coords t) _ _ _ _ _ _ _ _ _ _ _ _ _ _ _ _ _ _ _ _ _ _ _ _ _ _ (fun h => absurd ((hcond0_0 t).mp h) (by omega)) ((hcond0_1 t).mpr (by omega)) (fun h => absurd ((hcond0_2 t).mp h) (by omega)) (fun h => absurd ((hcond0_3 t).mp h) (by omega)) (iblk m c 0 t) (iblk m c 1 t) (iblk m c 2 t) (iblk m c 3 t) (iblk m c 4 t) (iblk m c 5 t) ((dats m 0 c).before 6 t d6) ((dats m 0 c).before 7 t d7) ((dats m 0 c).before 8 t d8) (codesOf m c) (scalesOf m c) (cosOf m c) (sinOf m c) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS0]; · iexact HS0
  isplitl [HS1]; · iexact HS1
  iintro ⟨H0, H1, H2, H3, H4, H5, H6, H7, H8, H9, H10, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists (Classical.arbitrary _); iexact H9
  iexists (Classical.arbitrary _)
  iexact H10

set_option maxHeartbeats 1600000 in
/-- The body at point 8. -/
theorem soundC (c : Dev nD) (t : Fin cfg0.N) (h0 : t.val = 8) :
    bodyPre m c t ⊢ wp frame (wpE (defs₀ (F := F)) Variants.none c none) Set.univ (bodyAt0 t) (fun _ => bodyPost m c t) := by
  have hN := val_lt t
  obtain rfl : t = t0_8 := Fin.ext h0
  unfold bodyPre bodyPost bodyAt0
  simp only [before0_0, before0_1, before0_2, before0_3, before0_4, before0_5]
  rw [phi_succ, phi_next m c _ (by omega),
    show (dats m 0 c).owesAt () t0_8.succ = (dats m 0 c).owesAt () t0_8.castSucc from rfl]
  rw [leaves_live (dats m 0 c) 0 t0_8 (liveAt0_0 _), after0_0]
  rw [leaves_live (dats m 0 c) 1 t0_8 (liveAt0_1 _), after0_1]
  rw [leaves_live (dats m 0 c) 2 t0_8 (liveAt0_2 _), after0_2]
  rw [leaves_live (dats m 0 c) 3 t0_8 (liveAt0_3 _), after0_3]
  rw [leaves_live (dats m 0 c) 4 t0_8 (liveAt0_4 _), after0_4]
  rw [leaves_live (dats m 0 c) 5 t0_8 (liveAt0_5 _), after0_5]
  rw [Dat.leavesExact_idle (dats m 0 c) 6 t0_8 (idle0_6 _ (by omega)) (bool_false (flush0_6 _) (by omega))]
  rw [leaves_live (dats m 0 c) 7 t0_8 (live0_7 _ (by omega)), after0_7]
  rw [Dat.leavesExact_idle (dats m 0 c) 8 t0_8 (idle0_8 _ (by omega)) (bool_false (flush0_8 _) (by omega))]
  rw [Dat.leavesExact_idle (dats m 0 c) 9 t0_8 (idle0_9 _ (by omega)) (bool_false (flush0_9 _) (by omega))]
  rw [Dat.leavesExact_idle (dats m 0 c) 10 t0_8 (idle0_10 _ (by omega)) (bool_false (flush0_10 _) (by omega))]
  have e9 := fun d => before0_9 m c t0_8 (by omega) d
  have e10 := fun d => before0_10 m c t0_8 (by omega) d
  simp only [e9, e10]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (runC c (grid0.coords t0_8) _ _ _ _ _ _ _ _ _ _ _ _ _ _ _ _ _ _ _ _ _ _ _ _ _ _ (fun h => absurd ((hcond0_0 t0_8).mp h) (by omega)) (fun h => absurd ((hcond0_1 t0_8).mp h) (by omega)) ((hcond0_2 t0_8).mpr (by omega)) (fun h => absurd ((hcond0_3 t0_8).mp h) (by omega)) (iblk m c 0 t0_8) (iblk m c 1 t0_8) (iblk m c 2 t0_8) (iblk m c 3 t0_8) (iblk m c 4 t0_8) (iblk m c 5 t0_8) ((dats m 0 c).before 6 t0_8 d6) ((dats m 0 c).before 7 t0_8 d7) ((dats m 0 c).before 8 t0_8 d8) (codesOf m c) (scalesOf m c) (cosOf m c) (sinOf m c) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS0]; · iexact HS0
  isplitl [HS1]; · iexact HS1
  iintro ⟨H0, H1, H2, H3, H4, H5, H6, H7, H8, H9, H10, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [H8]; · iexists _; iexact H8
  isplitl [H9]; · iexists (Classical.arbitrary _); iexact H9
  iexists (Classical.arbitrary _)
  iexact H10

set_option maxHeartbeats 1600000 in
/-- The body at the last point. -/
theorem soundD (c : Dev nD) (t : Fin cfg0.N) (h0 : t.val = 9) :
    bodyPre m c t ⊢ wp frame (wpE (defs₀ (F := F)) Variants.none c none) Set.univ (bodyAt0 t) (fun _ => bodyPost m c t) := by
  have hN := val_lt t
  obtain rfl : t = t0_9 := Fin.ext h0
  unfold bodyPre bodyPost bodyAt0
  simp only [before0_0, before0_1, before0_2, before0_3, before0_4, before0_5]
  rw [phi_succ, phi_next m c _ (by omega),
    show (dats m 0 c).owesAt () t0_9.succ = (dats m 0 c).owesAt () t0_9.castSucc from rfl]
  rw [leaves_live (dats m 0 c) 0 t0_9 (liveAt0_0 _), after0_0]
  rw [leaves_live (dats m 0 c) 1 t0_9 (liveAt0_1 _), after0_1]
  rw [leaves_live (dats m 0 c) 2 t0_9 (liveAt0_2 _), after0_2]
  rw [leaves_live (dats m 0 c) 3 t0_9 (liveAt0_3 _), after0_3]
  rw [leaves_live (dats m 0 c) 4 t0_9 (liveAt0_4 _), after0_4]
  rw [leaves_live (dats m 0 c) 5 t0_9 (liveAt0_5 _), after0_5]
  rw [leaves_flush (dats m 0 c) 6 t0_9 (idle0_6 _ (by omega)) ((flush0_6 _).mpr (by omega)), after0_6]
  rw [leaves_flush (dats m 0 c) 7 t0_9 (idle0_7 _ (by omega)) ((flush0_7 _).mpr (by omega)), after0_7]
  rw [leaves_live (dats m 0 c) 8 t0_9 (live0_8 _ (by omega)), after0_8]
  rw [leaves_flush (dats m 0 c) 9 t0_9 (idle0_9 _ (by omega)) ((flush0_9 _).mpr (by omega)), after0_9]
  rw [leaves_flush (dats m 0 c) 10 t0_9 (idle0_10 _ (by omega)) ((flush0_10 _).mpr (by omega)), after0_10]
  have e9 := fun d => before0_9 m c t0_9 (by omega) d
  have e10 := fun d => before0_10 m c t0_9 (by omega) d
  simp only [e9, e10]
  have e6 := fun d => before0_6 m c t0_9 (by omega) d
  have e7 := fun d => before0_7 m c t0_9 (by omega) d
  simp only [e6, e7]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (runD c (grid0.coords t0_9) _ _ _ _ _ _ _ _ _ _ _ _ _ _ _ _ _ _ _ _ _ _ _ _ _ _ (fun h => absurd ((hcond0_0 t0_9).mp h) (by omega)) (fun h => absurd ((hcond0_1 t0_9).mp h) (by omega)) (fun h => absurd ((hcond0_2 t0_9).mp h) (by omega)) ((hcond0_3 t0_9).mpr (by omega)) (iblk m c 0 t0_9) (iblk m c 1 t0_9) (iblk m c 2 t0_9) (iblk m c 3 t0_9) (iblk m c 4 t0_9) (iblk m c 5 t0_9) (ropeAt m c t0_7) (ropeAt m c t0_8) ((dats m 0 c).before 8 t0_9 d8) (codesOf m c) (scalesOf m c) (cosOf m c) (sinOf m c) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS0]; · iexact HS0
  isplitl [HS1]; · iexact HS1
  iintro ⟨H0, H1, H2, H3, H4, H5, H6, H7, H8, H9, H10, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body at any point. -/
theorem sound_body (c : Dev nD) (t : Fin cfg0.N) :
    bodyPre m c t ⊢ wp frame (wpE (defs₀ (F := F)) Variants.none c none) Set.univ (bodyAt0 t) (fun _ => bodyPost m c t) := by
  have hN := val_lt t
  by_cases h0 : t.val = 0
  · exact soundA m c t h0
  by_cases h1 : t.val < 8
  · exact soundB m c t h0 h1
  by_cases h2 : t.val = 8
  · exact soundC m c t h2
  exact soundD m c t (by omega)

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- Every grid point does what the proof data say. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

/-- What the launch gives is what the first point needs. -/
theorem phi_in (c : Dev nD) : (Pipeline.ΦA spec0 c : sProp 𝕄) ⊢ (dats m 0 c).Φ 0 := by
  rw [show (dats m 0 c).Φ 0 = Pipeline.ΦA spec0 c from rfl]
/-- What the last point leaves is what the launch takes back. -/
theorem phi_out (c : Dev nD) : (dats m 0 c).Φ (Fin.last cfg0.N) ⊢ (Pipeline.ΦA spec0 c : sProp 𝕄) := by
  rw [show (dats m 0 c).Φ (Fin.last cfg0.N) = iprop(iprop(owns (c : Thread nD τ) scM0_0 fullShare (cosOf m c) ∗ owns (c : Thread nD τ) scM0_1 fullShare (sinOf m c)) ∗ (∃ r, prngReg c r)) from rfl,
    PhiA0_eq]
  iintro ⟨⟨HS0, HS1⟩, Hg⟩
  isplitl [HS0 HS1]
  · isplitl [HS0]
    · iexists _; iexact HS0
    iexists _; iexact HS1
  iexact Hg

set_option backward.isDefEq.respectTransparency.types false in
/-- The kernel run from start to end: every array ends at what the proof data says, and every semaphore at zero. -/
theorem run_main_quiescent : θ_run defs (onTc (τ := τ) (main (F := F))) (s₀ m ρ)
    (fun r => (Pipeline.FramePost cfgs (dats m) (0 : Fin 1) (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := phi_in m) (hout := phi_out m)
    (hQ' := fun _ h => h)

/-- The kernel run without the counters. -/
theorem run_main : θ_run defs (onTc (τ := τ) (main (F := F))) (s₀ m ρ) (Pipeline.FramePost cfgs (dats m) (0 : Fin 1) (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame: it terminates, the arguments end unchanged and no semaphore is left raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Body

end
-- ==== Proof.Spec.lean ====
/- The mathematics of the problem, entry by entry, over the extended reals: what one row's norm, scale and codes are,
   what one entry of the product is, and what the rotary embedding makes of it. Neither program is mentioned here: the
   other modules say of each program that its results are these functions of its arguments.
   `X` is the input, `G` the gain, `W` the weight codes, `S` the weight scales and `P` the positions. -/
module

public import Idealize.ShloMosaic.PureOps.Ideal.Laws

@[expose] public section

noncomputable section

namespace Cert.Qkv

open Idealize.ShloMosaic

/-- The exponent of the scale of a row whose largest entry is `448 * t`: one more than the floor of the logarithm, and
    zero where `t` is below the least normal number or infinite. -/
def exponent (t : EReal) : EReal :=
  if t < Ideal.ofBits .f32 8388608#32 ∨ t = Ideal.ofBits .f32 2139095040#32 then 0
  else Ideal.liftRound Int.floor (Ideal.div (Ideal.log t) (Ideal.log (Ideal.ofBits .f32 1073741824#32))) + 1

/-- The power of two that float32 holds: infinite above the largest exponent, zero below the least. -/
def powerOfTwo (e : EReal) : EReal :=
  if Ideal.ofBits .f32 1123942400#32 < e then Ideal.ofBits .f32 2139095040#32
  else if e < Ideal.ofBits .f32 3271294976#32 then 0
  else Ideal.pow (Ideal.ofBits .f32 1073741824#32) e

variable (X : Fin 192 → Fin 8192 → EReal) (G : Fin 8192 → EReal) (W : Fin 8192 → Fin 10240 → EReal)
  (S : Fin 10240 → EReal) (P : Fin 192 → BitVec 32)

/-- The normalised row: the input over the root of its mean square, times the gain. -/
def norm (r : Fin 192) (k : Fin 8192) : EReal :=
  X r k * Ideal.rsqrt (Ideal.div (∑ x, X r x * X r x) (Ideal.ofBits .f32 1174405120#32)
    + Ideal.ofBits .f32 897988541#32) * G k

/-- The largest absolute value of a row. -/
def top (r : Fin 192) : EReal :=
  Finset.fold max (Ideal.ofBits .f32 4286578688#32) (fun k => FloatOps.absf (F := Ideal) (φ := .f32) (norm X G r k)) Finset.univ

/-- That value over 448. -/
def ratio (r : Fin 192) : EReal := top X G r * Ideal.ofBits .f32 991054117#32

/-- The scale of a row. -/
def scale (r : Fin 192) : EReal := powerOfTwo (exponent (ratio X G r))

/-- The factor that a row is multiplied by before it is rounded. -/
def inverse (r : Fin 192) : EReal := powerOfTwo (-exponent (ratio X G r))

/-- The code of an entry: scaled, and clipped to 448 on both sides. -/
def code (r : Fin 192) (k : Fin 8192) : EReal :=
  min (Ideal.ofBits .f32 1138753536#32) (max (Ideal.ofBits .f32 3286237184#32) (norm X G r k * inverse X G r))

/-- An entry of the projection: the product of the codes, times the two scales. -/
def proj (r : Fin 192) (j : Fin 10240) : EReal :=
  (∑ k, code X G r k * W k j) * scale X G r * S j

/-- The angle of a row at a lane of the first half of a head. -/
def angle (r : Fin 192) (l : Nat) : EReal :=
  FloatOps.sitofp (F := Ideal) .f32 (P r) * Ideal.pow (Ideal.ofBits .f32 1176256512#32)
    (-Ideal.div (Ideal.ofBits .f32 1073741824#32 * FloatOps.sitofp (F := Ideal) .f32 (BitVec.ofNat 32 l)) (Ideal.ofBits .f32 1124073472#32))

/-- The rotary embedding of the head whose lanes are `T`: its halves rotated by the row's angles. -/
def rotary (T : Fin 128 → EReal) (r : Fin 192) (l : Fin 128) : EReal :=
  if h : l.val < 64 then
    T l * Ideal.cos (angle P r l.val) - T ⟨64 + l.val, by omega⟩ * Ideal.sin (angle P r l.val)
  else
    T l * Ideal.cos (angle P r (l.val - 64)) + T ⟨l.val - 64, by omega⟩ * Ideal.sin (angle P r (l.val - 64))

/-- Entry `l` of head `n` of the projection whose columns start at `o`. -/
def head (o : Nat) (r : Fin 192) (n : Nat) (h : o + n * 128 + 128 ≤ 10240) (l : Fin 128) : EReal :=
  proj X G W S r ⟨o + (n * 128 + l.val), by omega⟩

/-- A query. -/
def query (r : Fin 192) (n : Fin 64) (l : Fin 128) : EReal :=
  rotary P (head X G W S 0 r n.val (by omega)) r l

/-- A key. -/
def key (r : Fin 192) (n : Fin 8) (l : Fin 128) : EReal :=
  rotary P (head X G W S 8192 r n.val (by omega)) r l

/-- A value. -/
def value (r : Fin 192) (n : Fin 8) (l : Fin 128) : EReal :=
  head X G W S 9216 r n.val (by omega) l

/-- The fold of the ideal maximum is the fold of `max`. -/
theorem fold_maximum {n : ℕ} (b : EReal) (f : Fin n → EReal) :
    Finset.fold (β := Ideal .f32) (FloatOps.maximumf (F := Ideal) (φ := .f32)) b f Finset.univ = Finset.fold max b f Finset.univ := rfl

end Cert.Qkv

end
-- ==== Proof.Scale.lean ====
/- The scale of a row: counting the powers of two that a number reaches gives the floor of its logarithm, so that the
   powers of two built from the count's bits are the scale and its inverse. Numbers only: no program is mentioned. -/
module

public import proofs.«01_k».proof.Proof.Spec

@[expose] public section

noncomputable section

namespace Cert.Qkv

open Idealize.ShloMosaic

/-- The float whose exponent field is `n`. -/
def threshold (n : ℕ) : EReal := Ideal.ofBits .f32 (BitVec.ofNat 32 n <<< 23)

/-- The sign, exponent and fraction of a threshold's bits. -/
theorem threshold_fields (n : ℕ) (h : n < 256) :
    ((BitVec.ofNat 32 n <<< 23).extractLsb' 31 1 == 1#1) = false
    ∧ ((BitVec.ofNat 32 n <<< 23).extractLsb' 23 8).toNat = n ∧ ((BitVec.ofNat 32 n <<< 23).extractLsb' 0 23).toNat = 0 := by
  have := (by decide +kernel : ∀ n : Fin 256, ((BitVec.ofNat 32 n.val <<< 23).extractLsb' 31 1 == 1#1) = false
    ∧ ((BitVec.ofNat 32 n.val <<< 23).extractLsb' 23 8).toNat = n.val ∧ ((BitVec.ofNat 32 n.val <<< 23).extractLsb' 0 23).toNat = 0) ⟨n, h⟩
  exact this

/-- The float of a given exponent field, with no sign and no fraction. -/
theorem ieee_of (b : BitVec 32) (n : ℕ) (h1 : (b.extractLsb' 31 1 == 1#1) = false) (h2 : (b.extractLsb' 23 8).toNat = n)
    (h3 : (b.extractLsb' 0 23).toNat = 0) :
    Ideal.ieee 8 23 b = if n = 255 then ⊤ else if n = 0 then 0 else (((2 : ℝ) ^ ((n : ℤ) - 127) : ℝ) : EReal) := by
  unfold Ideal.ieee
  simp only [Nat.reduceAdd, h1, h2, h3]
  by_cases ha : n = 255
  · rw [if_pos ha, if_pos (by rw [ha]; norm_num)]
    rfl
  rw [if_neg (by norm_num; exact ha), if_neg ha]
  by_cases hb : n = 0
  · rw [if_pos hb, if_pos hb]
    norm_num
  rw [if_neg hb, if_neg hb]
  have e : (n : ℤ) - (2 ^ (8 - 1) - 1) - ((23 : ℕ) : ℤ) = ((n : ℤ) - 127) - 23 := by norm_num
  have e2 : ((2 ^ 23 + 0 : ℕ) : ℝ) = (2 : ℝ) ^ (23 : ℤ) := by norm_num
  rw [e, e2, zpow_sub₀ (by norm_num), if_neg (by decide), one_mul, mul_div_cancel₀]
  positivity

/-- A threshold is zero, a power of two, or infinity. -/
theorem threshold_eq (n : ℕ) (h : n < 256) :
    threshold n = if n = 255 then ⊤ else if n = 0 then 0 else (((2 : ℝ) ^ ((n : ℤ) - 127) : ℝ) : EReal) := by
  obtain ⟨h1, h2, h3⟩ := threshold_fields n h
  exact ieee_of _ n h1 h2 h3

/-- The last threshold is infinity. -/
theorem threshold_255 : threshold 255 = ⊤ := by rw [threshold_eq 255 (by omega)]; rfl
/-- The threshold of field zero is zero. -/
theorem threshold_0 : threshold 0 = 0 := by rw [threshold_eq 0 (by omega)]; rfl
/-- The other thresholds are powers of two. -/
theorem threshold_mid (n : ℕ) (h0 : 0 < n) (h : n < 255) : threshold n = (((2 : ℝ) ^ ((n : ℤ) - 127) : ℝ) : EReal) := by
  rw [threshold_eq n (by omega), if_neg (by omega), if_neg (by omega)]

/-- The number of thresholds, from the least normal number to infinity, that a number reaches. -/
def count (t : EReal) : ℕ := (Finset.univ.filter fun n : Fin 256 => 0 < n.val ∧ threshold n.val ≤ t).card

/-- The exponent that the count gives, as a machine word. -/
def countExponent (n : ℕ) : ℤ := if n = 0 ∨ n = 255 then 0 else (n : ℤ) - 126

/-- The least normal number. -/
theorem tiny_eq : Ideal.ofBits .f32 8388608#32 = (((2 : ℝ) ^ (-126 : ℤ) : ℝ) : EReal) := by
  have := threshold_mid 1 (by omega) (by omega)
  norm_num [threshold] at this ⊢
  exact this

/-- The bits of infinity. -/
theorem inf_eq : Ideal.ofBits .f32 2139095040#32 = ⊤ := threshold_255

/-- The bits of two. -/
theorem two_eq : Ideal.ofBits .f32 1073741824#32 = ((2 : ℝ) : EReal) := by
  have := threshold_mid 128 (by omega) (by omega)
  norm_num [threshold] at this ⊢
  exact this

/-- The bits of 127. -/
theorem hi_eq : Ideal.ofBits .f32 1123942400#32 = ((127 : ℝ) : EReal) := by
  simp [Ideal.ofBits, Ideal.ieee, -EReal.coe_mul]; norm_num
/-- The bits of -126. -/
theorem lo_eq : Ideal.ofBits .f32 3271294976#32 = ((-126 : ℝ) : EReal) := by
  simp [Ideal.ofBits, Ideal.ieee, -EReal.coe_mul]; norm_num

/-- Below the least normal number no threshold is reached. -/
theorem count_of_lt (t : EReal) (h : t < Ideal.ofBits .f32 8388608#32) : count t = 0 := by
  unfold count
  rw [Finset.card_eq_zero, Finset.filter_eq_empty_iff]
  rintro n - ⟨h0, h1⟩
  rw [tiny_eq] at h
  refine absurd (lt_of_le_of_lt h1 h) (not_lt.mpr ?_)
  have hn := n.isLt
  by_cases e : n.val = 255
  · rw [e, threshold_255]; exact le_top
  · rw [threshold_mid _ h0 (by omega), EReal.coe_le_coe_iff]
    exact zpow_le_zpow_right₀ (by norm_num) (by omega)

/-- Infinity reaches every threshold. -/
theorem count_top : count ⊤ = 255 := by
  unfold count
  simp only [le_top, and_true]
  decide

/-- There are `k` numbers from 1 to `k`. -/
theorem card_initial (k : ℕ) (hk : k < 256) :
    (Finset.univ.filter fun n : Fin 256 => 0 < n.val ∧ n.val ≤ k).card = k := by
  have := (by decide +kernel : ∀ k : Fin 256, (Finset.univ.filter fun n : Fin 256 => 0 < n.val ∧ n.val ≤ k.val).card = k.val)
  exact this ⟨k, hk⟩

/-- The logarithm rounded down. -/
def log2 (r : ℝ) : ℤ := ⌊Real.log r / Real.log 2⌋

/-- A real number's count is the floor of its logarithm plus 127, at most 254. -/
theorem count_real (r : ℝ) (h : (2 : ℝ) ^ (-126 : ℤ) ≤ r) :
    (count (r : EReal) : ℤ) = min (log2 r + 127) 254 ∧ -126 ≤ log2 r := by
  have hr : 0 < r := lt_of_lt_of_le (by positivity) h
  have key (x : ℤ) : (2 : ℝ) ^ x ≤ r ↔ x ≤ log2 r := by
    unfold log2
    rw [Int.le_floor, le_div_iff₀ (Real.log_pos (by norm_num)), ← Real.log_zpow, Real.log_le_log_iff (by positivity) hr]
  have hL := (key (-126)).mp h
  refine ⟨?_, hL⟩
  obtain ⟨k, hk⟩ : ∃ k : ℕ, (k : ℤ) = min (log2 r + 127) 254 := ⟨(min (log2 r + 127) 254).toNat, by omega⟩
  rw [← hk]
  have : count (r : EReal) = k := by
    unfold count
    rw [← card_initial k (by omega)]
    congr 1
    apply Finset.filter_congr
    intro n _
    have hn := n.isLt
    refine and_congr_right fun h0 => ?_
    by_cases e : n.val = 255
    · rw [e, threshold_255]
      simp only [top_le_iff, EReal.coe_ne_top, false_iff]
      omega
    · rw [threshold_mid _ h0 (by omega), EReal.coe_le_coe_iff, key]
      omega
  rw [this]

/-- There are fewer than 256 thresholds to reach. -/
theorem count_lt (t : EReal) : count t < 256 := by
  unfold count
  calc _ ≤ (Finset.univ.filter fun n : Fin 256 => 0 < n.val).card := Finset.card_le_card (fun n hn => by
          simp only [Finset.mem_filter] at hn ⊢; exact ⟨hn.1, hn.2.1⟩)
    _ < 256 := by decide

/-- The quotient of logarithms, rounded down, is the integer logarithm. -/
theorem exponent_real (r : ℝ) (h : (2 : ℝ) ^ (-126 : ℤ) ≤ r) : exponent (r : EReal) = ((log2 r + 1 : ℤ) : ℝ) := by
  have hr : 0 < r := lt_of_lt_of_le (by positivity) h
  unfold exponent
  rw [tiny_eq, inf_eq, two_eq, if_neg (by simp only [EReal.coe_lt_coe_iff, EReal.coe_ne_top, or_false, not_lt]; exact h),
    Ideal.log_coe, Ideal.log_coe, if_neg (by linarith), if_neg (by norm_num)]
  have hl : (0 : ℝ) < Real.log 2 := Real.log_pos (by norm_num)
  unfold Ideal.div
  rw [if_neg (by exact_mod_cast hl.ne'), ← EReal.coe_inv, ← EReal.coe_mul, Ideal.liftRound_coe, ← div_eq_mul_inv]
  push_cast
  rfl

/-- Below the least normal number the exponent is zero. -/
theorem exponent_of_lt (t : EReal) (h : t < Ideal.ofBits .f32 8388608#32) : exponent t = 0 := by
  unfold exponent; rw [if_pos (Or.inl h)]
/-- The exponent of infinity is zero. -/
theorem exponent_top : exponent ⊤ = 0 := by
  unfold exponent; rw [if_pos (Or.inr inf_eq.symm)]

/-- The power of two of an integer, from a word's exponent field. -/
theorem powerOfTwo_int (e : ℤ) : powerOfTwo ((e : ℝ) : EReal)
    = if 127 < e then ⊤ else if e < -126 then 0 else (((2 : ℝ) ^ e : ℝ) : EReal) := by
  unfold powerOfTwo
  rw [hi_eq, lo_eq, inf_eq, two_eq]
  simp only [EReal.coe_lt_coe_iff]
  have h1 : ((127 : ℝ) < (e : ℝ)) ↔ 127 < e := by exact_mod_cast Iff.rfl
  have h2 : ((e : ℝ) < (-126 : ℝ)) ↔ e < -126 := by exact_mod_cast Iff.rfl
  simp only [h1, h2]
  split_ifs
  · rfl
  · rfl
  · show ((Real.rpow 2 (e : ℝ) : ℝ) : EReal) = _
    congr 1
    exact Real.rpow_intCast 2 e

/-- The float whose field is an exponent plus 127, and not less than zero, is the power of two. -/
theorem powerOfTwo_field (e : ℤ) (h : e ≤ 128) : threshold (max (e + 127) 0).toNat = powerOfTwo ((e : ℝ) : EReal) := by
  rw [powerOfTwo_int, threshold_eq _ (by omega)]
  by_cases h1 : e = 128
  · subst h1; rfl
  by_cases h2 : e < -126
  · rw [if_neg (by omega), if_pos (by omega), if_neg (by omega), if_pos h2]
  · rw [if_neg (by omega), if_neg (by omega), if_neg (by omega), if_neg h2]
    congr 2
    omega

/-- The scale from the count. -/
theorem scale_count (t : EReal) :
    threshold (max (countExponent (count t) + 127) 0).toNat = powerOfTwo (exponent t)
    ∧ threshold (max (-countExponent (count t) + 127) 0).toNat = powerOfTwo (-exponent t) := by
  have zero : threshold (max ((0 : ℤ) + 127) 0).toNat = powerOfTwo (0 : EReal) := by
    rw [powerOfTwo_field 0 (by omega)]; norm_num
  by_cases h : t < Ideal.ofBits .f32 8388608#32
  · rw [count_of_lt t h, exponent_of_lt t h, show countExponent 0 = 0 from rfl, neg_zero, neg_zero]
    exact ⟨zero, zero⟩
  by_cases ht : t = ⊤
  · rw [ht, count_top, exponent_top, show countExponent 255 = 0 from rfl, neg_zero, neg_zero]
    exact ⟨zero, zero⟩
  rw [tiny_eq, not_lt] at h
  induction t with
  | bot => exact absurd h (by simp)
  | top => exact absurd rfl ht
  | coe r =>
    rw [EReal.coe_le_coe_iff] at h
    obtain ⟨hc, hL⟩ := count_real r h
    rw [exponent_real r h, ← EReal.coe_neg, ← Int.cast_neg]
    generalize log2 r = L at hc hL
    have he : countExponent (count (r : EReal)) = min (L + 1) 128 := by
      unfold countExponent
      rw [if_neg (by omega)]
      omega
    rw [he, powerOfTwo_field _ (by omega), powerOfTwo_field _ (by omega)]
    simp only [powerOfTwo_int]
    by_cases hL' : L ≤ 127
    · rw [min_eq_left (by omega)]; exact ⟨rfl, rfl⟩
    · rw [min_eq_right (by omega)]
      refine ⟨?_, ?_⟩
      · rw [if_pos (by omega), if_pos (by omega)]
      · rw [if_neg (by omega), if_pos (by omega), if_neg (by omega), if_pos (by omega)]

end Cert.Qkv

end
-- ==== Proof.KernelRows.lean ====
/- What the kernel's body computes of the rows at the first point, entry by entry: the normalised rows, their scales and
   codes, and the angles' cosines and sines. -/
module

public import proofs.«01_k».proof.Proof.IdealRuns
public import proofs.«01_k».proof.Proof.Scale
public import Idealize.ShloMosaic.Lib.Pointwise
public import Idealize.ShloMosaic.Lib.ValueIdx
public import Idealize.ShloMosaic.Lib.WordSum

@[expose] public section

noncomputable section

namespace Cert.KernelIdeal.Body

open Cert.KernelIdeal Cert.KernelIdeal.Gen
open Idealize.ShloMosaic Idealize.ShloMosaic.TcCoe Idealize.ShloMosaic.Tactic

section Rows

variable (x : Vec Ideal S192x8192 .bf16) (g : Vec Ideal S1x8192 .f32)
variable (X : Fin 192 → Fin 8192 → EReal) (G : Fin 8192 → EReal)
  (hx : ∀ r k, x (ix2 r k) = X r k) (hg : ∀ k, g (ix2 0 k) = G k)

include hx hg

/-- The normalised rows. -/
theorem norm_at (r : Fin 192) (k : Fin 8192) : k0_pay22 x g (ix2 r k) = Qkv.norm X G r k := by
  pointwise [k0_pay22]
  simp only [hx, hg]
  rfl

omit hx hg in
/-- The largest absolute value as a fold over the row. -/
theorem top_fold (r : Fin 192) : k0_pay23 x g (ix2 r 0) = Finset.fold (FloatOps.maximumf (F := Ideal) (φ := .f32))
    (Ideal.ofBits .f32 4286578688#32) (fun k => FloatOps.absf (F := Ideal) (φ := .f32) (k0_pay22 x g (ix2 r k))) Finset.univ := by
  pointwise [k0_pay23]

/-- The rows' largest absolute values. -/
theorem top_at (r : Fin 192) : k0_pay23 x g (ix2 r 0) = Qkv.top X G r := by
  rw [top_fold]
  refine (Qkv.fold_maximum _ _).trans ?_
  unfold Qkv.top
  congr 1
  funext k
  rw [norm_at x g X G hx hg]

omit hx hg in
/-- The lanes that are counted. -/
theorem count_fold (r : Fin 192) : k0_pay24 x g (ix2 r 0) = multiReductionI .add [1] S192
    (fun i : S192x256.Idx => Scalar.select (IntOp.andi (IntOp.cmpi .sgt (BitVec.ofNat 32 (i 1).val) 0#32)
      (BitVec.ofBool (decide (Qkv.threshold (i 1).val ≤ k0_pay23 x g (ix2 (i 0) 0) * Ideal.ofBits .f32 991054117#32)))) 1#32 0#32)
    0#32 reduces_S192x256_S192 rfl (ix1 r) := by
  unfold k0_pay24
  rw [shapeCast_apply _ _ (ix2 r 0) (ix1 r) (by rfl)]
  congr 1
  funext i
  pointwise
  rfl

end Rows
-- ==== Proof.KernelHeads.lean ====
/- The heads that the kernel's body leaves in a block, entry by entry: plain heads are columns of the product, and rotated
   heads are columns times the cosines plus the columns half a head away times the sines. -/
module

public import proofs.«01_k».proof.Proof.IdealRuns
public import proofs.«01_k».proof.Proof.Spec
public import Idealize.ShloMosaic.Lib.Pointwise
public import Idealize.ShloMosaic.Lib.ValueIdx
public import Idealize.ShloMosaic.Lib.Pipeline.Value

@[expose] public section

noncomputable section

namespace Cert.KernelIdeal.Body

open Cert.KernelIdeal Cert.KernelIdeal.Gen
open Idealize.ShloMosaic Idealize.ShloMosaic.TcCoe Idealize.ShloMosaic.Tactic

variable (a : Vec Ideal S192x8192 .fp8e4m3) (w : Vec Ideal S8192x1024 .fp8e4m3) (s : Vec Ideal S192x1 .f32) (ws : Vec Ideal S1x1024 .f32)
  (co si : Vec Ideal S192x128 .f32)

/-- An entry of the product of a block. -/
theorem product_at (r : Fin 192) (j : Fin 1024) :
    k0_pay3 a w s ws (ix2 r j) = (∑ k : Fin 8192, a (ix2 r k) * w (ix2 k j)) * s (ix2 r 0) * ws (ix2 0 j) := by
  pointwise [k0_pay3]

/-- Entry `l` of head `n` of a block's product. -/
def lane (n : ℕ) (h : n < 8) (r : Fin 192) (l : Fin 128) : EReal :=
  k0_pay3 a w s ws (ix2 r ⟨n * 128 + l.val, by omega⟩)

/-- A column of the product is a lane of one of its eight heads. -/
theorem lane_of (n : ℕ) (h : n < 8) (r : Fin 192) (l : Fin 128) (j : Fin 1024) (hj : j.val = n * 128 + l.val) :
    k0_pay3 a w s ws (ix2 r j) = lane a w s ws n h r l := by
  have e : j = ⟨n * 128 + l.val, by omega⟩ := Fin.ext hj
  rw [e]
  rfl

/-- The lane half a head away. -/
def across (l : Fin 128) : Fin 128 := ⟨(l.val + 128 - 64) % 128, Nat.mod_lt _ (by decide)⟩

/-- An entry of a rotated head. -/
def rotated (n : ℕ) (h : n < 8) (r : Fin 192) (l : Fin 128) : EReal :=
  lane a w s ws n h r l * co (ix2 r l) + lane a w s ws n h r (across l) * si (ix2 r l)

/-- Two heads interleaved: row zero is the one, row one the other. -/
theorem interleaved_at (lo hi : FVec Ideal S192x128 .bf16) (r : Fin 192) (p : Fin 2) (l : Fin 128) :
    interleaveRows S192x2x128 (shapeCast S192x1x128 lo shapeCasts_S192x128_S192x1x128)
      (shapeCast S192x1x128 hi shapeCasts_S192x128_S192x1x128) bitcasts_S192x2x128_w16_S192x1x128_w32 (ix3 r p l)
      = if p.val = 0 then lo (ix2 r l) else hi (ix2 r l) := by
  pointwise
  rw [Nat.mod_eq_of_lt p.isLt]

/-- A head times the cosines plus the head rotated by half its length times the sines. -/
theorem rotate_at (t : FVec Ideal S192x128 .f32) (r : Fin 192) (l : Fin 128) :
    addf (mulf t co) (mulf (dynamicRotate 1 64#32 none t rotates_S192x128_d1) si) (ix2 r l)
      = t (ix2 r l) * co (ix2 r l) + t (ix2 r (across l)) * si (ix2 r l) := by
  pointwise
  rfl

/-! ## The columns of the heads -/

/-- Head 0 of the product. -/
theorem column_0 (r : Fin 192) (l : Fin 128) : k0_pay4 a w s ws (ix2 r l) = lane a w s ws 0 (by decide) r l := by
  pointwise [k0_pay4]
  exact lane_of a w s ws 0 _ r l _ (by show l.val = 0 * 128 + l.val; omega)

/-- Head 1 of the product. -/
theorem column_1 (r : Fin 192) (l : Fin 128) : k0_pay5 a w s ws (ix2 r l) = lane a w s ws 1 (by decide) r l := by
  pointwise [k0_pay5]
  exact lane_of a w s ws 1 _ r l _ (by show 128 + l.val = 1 * 128 + l.val; omega)

/-- Head 2 of the product. -/
theorem column_2 (r : Fin 192) (l : Fin 128) : k0_pay6 a w s ws (ix2 r l) = lane a w s ws 2 (by decide) r l := by
  pointwise [k0_pay6]
  exact lane_of a w s ws 2 _ r l _ (by show 256 + l.val = 2 * 128 + l.val; omega)

/-- Head 3 of the product. -/
theorem column_3 (r : Fin 192) (l : Fin 128) : k0_pay7 a w s ws (ix2 r l) = lane a w s ws 3 (by decide) r l := by
  pointwise [k0_pay7]
  exact lane_of a w s ws 3 _ r l _ (by show 384 + l.val = 3 * 128 + l.val; omega)

/-- Head 4 of the product. -/
theorem column_4 (r : Fin 192) (l : Fin 128) : k0_pay8 a w s ws (ix2 r l) = lane a w s ws 4 (by decide) r l := by
  pointwise [k0_pay8]
  exact lane_of a w s ws 4 _ r l _ (by show 512 + l.val = 4 * 128 + l.val; omega)

/-- Head 5 of the product. -/
theorem column_5 (r : Fin 192) (l : Fin 128) : k0_pay9 a w s ws (ix2 r l) = lane a w s ws 5 (by decide) r l := by
  pointwise [k0_pay9]
  exact lane_of a w s ws 5 _ r l _ (by show 640 + l.val = 5 * 128 + l.val; omega)

/-- Head 6 of the product. -/
theorem column_6 (r : Fin 192) (l : Fin 128) : k0_pay10 a w s ws (ix2 r l) = lane a w s ws 6 (by decide) r l := by
  pointwise [k0_pay10]
  exact lane_of a w s ws 6 _ r l _ (by show 768 + l.val = 6 * 128 + l.val; omega)

/-- Head 7 of the product. -/
theorem column_7 (r : Fin 192) (l : Fin 128) : k0_pay11 a w s ws (ix2 r l) = lane a w s ws 7 (by decide) r l := by
  pointwise [k0_pay11]
  exact lane_of a w s ws 7 _ r l _ (by show 896 + l.val = 7 * 128 + l.val; omega)

/-! ## The pieces, two heads each -/

/-- Heads 0 and 1, as they are stored when nothing is rotated. -/
theorem plain_0 (r : Fin 192) (p : Fin 2) (l : Fin 128) :
    k0_pay18 a w s ws (ix3 r p l) = lane a w s ws (0 + p.val) (by omega) r l := by
  unfold k0_pay18
  rw [interleaved_at]
  match p with
  | ⟨0, _⟩ => rw [if_pos rfl]; exact column_0 a w s ws r l
  | ⟨1, _⟩ => rw [if_neg one_ne_zero]; exact column_1 a w s ws r l

/-- Heads 2 and 3, as they are stored when nothing is rotated. -/
theorem plain_2 (r : Fin 192) (p : Fin 2) (l : Fin 128) :
    k0_pay19 a w s ws (ix3 r p l) = lane a w s ws (2 + p.val) (by omega) r l := by
  unfold k0_pay19
  rw [interleaved_at]
  match p with
  | ⟨0, _⟩ => rw [if_pos rfl]; exact column_2 a w s ws r l
  | ⟨1, _⟩ => rw [if_neg one_ne_zero]; exact column_3 a w s ws r l

/-- Heads 4 and 5, as they are stored when nothing is rotated. -/
theorem plain_4 (r : Fin 192) (p : Fin 2) (l : Fin 128) :
    k0_pay20 a w s ws (ix3 r p l) = lane a w s ws (4 + p.val) (by omega) r l := by
  unfold k0_pay20
  rw [interleaved_at]
  match p with
  | ⟨0, _⟩ => rw [if_pos rfl]; exact column_4 a w s ws r l
  | ⟨1, _⟩ => rw [if_neg one_ne_zero]; exact column_5 a w s ws r l

/-- Heads 6 and 7, as they are stored when nothing is rotated. -/
theorem plain_6 (r : Fin 192) (p : Fin 2) (l : Fin 128) :
    k0_pay21 a w s ws (ix3 r p l) = lane a w s ws (6 + p.val) (by omega) r l := by
  unfold k0_pay21
  rw [interleaved_at]
  match p with
  | ⟨0, _⟩ => rw [if_pos rfl]; exact column_6 a w s ws r l
  | ⟨1, _⟩ => rw [if_neg one_ne_zero]; exact column_7 a w s ws r l

/-- Heads 0 and 1, as they are stored when they are rotated. -/
theorem rope_0 (r : Fin 192) (p : Fin 2) (l : Fin 128) :
    k0_pay34 (k0_pay4 a w s ws) (k0_pay5 a w s ws) co si (ix3 r p l)
      = rotated a w s ws co si (0 + p.val) (by omega) r l := by
  unfold k0_pay34
  rw [interleaved_at]
  match p with
  | ⟨0, _⟩ =>
    rw [if_pos rfl]
    refine (rotate_at co si (k0_pay4 a w s ws) r l).trans ?_
    rw [column_0, column_0]
    rfl
  | ⟨1, _⟩ =>
    rw [if_neg one_ne_zero]
    refine (rotate_at co si (k0_pay5 a w s ws) r l).trans ?_
    rw [column_1, column_1]
    rfl

/-- Heads 2 and 3, as they are stored when they are rotated. -/
theorem rope_2 (r : Fin 192) (p : Fin 2) (l : Fin 128) :
    k0_pay12 (k0_pay35 (k0_pay6 a w s ws) co si) (k0_pay36 (k0_pay7 a w s ws) co si) (ix3 r p l)
      = rotated a w s ws co si (2 + p.val) (by omega) r l := by
  unfold k0_pay12
  rw [interleaved_at]
  match p with
  | ⟨0, _⟩ =>
    rw [if_pos rfl]
    refine (rotate_at co si (k0_pay6 a w s ws) r l).trans ?_
    rw [column_2, column_2]
    rfl
  | ⟨1, _⟩ =>
    rw [if_neg one_ne_zero]
    refine (rotate_at co si (k0_pay7 a w s ws) r l).trans ?_
    rw [column_3, column_3]
    rfl

/-- Heads 4 and 5, as they are stored when they are rotated. -/
theorem rope_4 (r : Fin 192) (p : Fin 2) (l : Fin 128) :
    k0_pay13 (k0_pay30 (k0_pay8 a w s ws) co si) (k0_pay31 (k0_pay9 a w s ws) co si) (ix3 r p l)
      = rotated a w s ws co si (4 + p.val) (by omega) r l := by
  unfold k0_pay13
  rw [interleaved_at]
  match p with
  | ⟨0, _⟩ =>
    rw [if_pos rfl]
    refine (rotate_at co si (k0_pay8 a w s ws) r l).trans ?_
    rw [column_4, column_4]
    rfl
  | ⟨1, _⟩ =>
    rw [if_neg one_ne_zero]
    refine (rotate_at co si (k0_pay9 a w s ws) r l).trans ?_
    rw [column_5, column_5]
    rfl

/-- Heads 6 and 7, as they are stored when they are rotated. -/
theorem rope_6 (r : Fin 192) (p : Fin 2) (l : Fin 128) :
    k0_pay14 (k0_pay32 (k0_pay10 a w s ws) co si) (k0_pay33 (k0_pay11 a w s ws) co si) (ix3 r p l)
      = rotated a w s ws co si (6 + p.val) (by omega) r l := by
  unfold k0_pay14
  rw [interleaved_at]
  match p with
  | ⟨0, _⟩ =>
    rw [if_pos rfl]
    refine (rotate_at co si (k0_pay10 a w s ws) r l).trans ?_
    rw [column_6, column_6]
    rfl
  | ⟨1, _⟩ =>
    rw [if_neg one_ne_zero]
    refine (rotate_at co si (k0_pay11 a w s ws) r l).trans ?_
    rw [column_7, column_7]
    rfl

/-! ## The blocks -/

/-- An entry of a block of plain heads. -/
theorem plainV_at (r : Fin 192) (n : Fin 8) (l : Fin 128) : plainV a w s ws (ix3 r n l) = lane a w s ws n.val n.isLt r l := by
  unfold plainV
  refine View.canon_apply_of_pieces (Val := Elt Ideal) (e := .bf16) (fun y : S192x8x128.Idx => (lane a w s ws (y 1).val (y 1).isLt (y 0) (y 2) : EReal)) _ ?_ (ix3 r n l) (cover_heads _ _ _ _ _)
  intro pc hpc
  rcases List.mem_cons.mp hpc with rfl | hpc
  · intro x
    refine Eq.trans ?_ ((plain_6 a w s ws (x 0) (x 1) (x 2)).trans ?_)
    · exact congrArg _ (ValueIdx.eq_ix3 x)
    · have e1 : (rHead6.emb x 1).val = 6 + (x 1).val := by show 6 + 1 * (x 1).val = _; omega
      have e0 : rHead6.emb x 0 = x 0 := Fin.ext (by show 0 + 1 * (x 0).val = _; omega)
      have e2 : rHead6.emb x 2 = x 2 := Fin.ext (by show 0 + 1 * (x 2).val = _; omega)
      simp only [e0, e1, e2]
  rcases List.mem_cons.mp hpc with rfl | hpc
  · intro x
    refine Eq.trans ?_ ((plain_4 a w s ws (x 0) (x 1) (x 2)).trans ?_)
    · exact congrArg _ (ValueIdx.eq_ix3 x)
    · have e1 : (rHead4.emb x 1).val = 4 + (x 1).val := by show 4 + 1 * (x 1).val = _; omega
      have e0 : rHead4.emb x 0 = x 0 := Fin.ext (by show 0 + 1 * (x 0).val = _; omega)
      have e2 : rHead4.emb x 2 = x 2 := Fin.ext (by show 0 + 1 * (x 2).val = _; omega)
      simp only [e0, e1, e2]
  rcases List.mem_cons.mp hpc with rfl | hpc
  · intro x
    refine Eq.trans ?_ ((plain_2 a w s ws (x 0) (x 1) (x 2)).trans ?_)
    · exact congrArg _ (ValueIdx.eq_ix3 x)
    · have e1 : (rHead2.emb x 1).val = 2 + (x 1).val := by show 2 + 1 * (x 1).val = _; omega
      have e0 : rHead2.emb x 0 = x 0 := Fin.ext (by show 0 + 1 * (x 0).val = _; omega)
      have e2 : rHead2.emb x 2 = x 2 := Fin.ext (by show 0 + 1 * (x 2).val = _; omega)
      simp only [e0, e1, e2]
  rcases List.mem_cons.mp hpc with rfl | hpc
  · intro x
    refine Eq.trans ?_ ((plain_0 a w s ws (x 0) (x 1) (x 2)).trans ?_)
    · exact congrArg _ (ValueIdx.eq_ix3 x)
    · have e1 : (rHead0.emb x 1).val = 0 + (x 1).val := by show 0 + 1 * (x 1).val = _; omega
      have e0 : rHead0.emb x 0 = x 0 := Fin.ext (by show 0 + 1 * (x 0).val = _; omega)
      have e2 : rHead0.emb x 2 = x 2 := Fin.ext (by show 0 + 1 * (x 2).val = _; omega)
      simp only [e0, e1, e2]
  nomatch hpc

/-- An entry of a block of rotated heads. -/
theorem ropeV_at (r : Fin 192) (n : Fin 8) (l : Fin 128) : ropeV a w s ws co si (ix3 r n l) = rotated a w s ws co si n.val n.isLt r l := by
  unfold ropeV
  refine View.canon_apply_of_pieces (Val := Elt Ideal) (e := .bf16) (fun y : S192x8x128.Idx => (rotated a w s ws co si (y 1).val (y 1).isLt (y 0) (y 2) : EReal)) _ ?_ (ix3 r n l) (cover_heads _ _ _ _ _)
  intro pc hpc
  rcases List.mem_cons.mp hpc with rfl | hpc
  · intro x
    refine Eq.trans ?_ ((rope_6 a w s ws co si (x 0) (x 1) (x 2)).trans ?_)
    · exact congrArg _ (ValueIdx.eq_ix3 x)
    · have e1 : (rHead6.emb x 1).val = 6 + (x 1).val := by show 6 + 1 * (x 1).val = _; omega
      have e0 : rHead6.emb x 0 = x 0 := Fin.ext (by show 0 + 1 * (x 0).val = _; omega)
      have e2 : rHead6.emb x 2 = x 2 := Fin.ext (by show 0 + 1 * (x 2).val = _; omega)
      simp only [e0, e1, e2]
  rcases List.mem_cons.mp hpc with rfl | hpc
  · intro x
    refine Eq.trans ?_ ((rope_4 a w s ws co si (x 0) (x 1) (x 2)).trans ?_)
    · exact congrArg _ (ValueIdx.eq_ix3 x)
    · have e1 : (rHead4.emb x 1).val = 4 + (x 1).val := by show 4 + 1 * (x 1).val = _; omega
      have e0 : rHead4.emb x 0 = x 0 := Fin.ext (by show 0 + 1 * (x 0).val = _; omega)
      have e2 : rHead4.emb x 2 = x 2 := Fin.ext (by show 0 + 1 * (x 2).val = _; omega)
      simp only [e0, e1, e2]
  rcases List.mem_cons.mp hpc with rfl | hpc
  · intro x
    refine Eq.trans ?_ ((rope_2 a w s ws co si (x 0) (x 1) (x 2)).trans ?_)
    · exact congrArg _ (ValueIdx.eq_ix3 x)
    · have e1 : (rHead2.emb x 1).val = 2 + (x 1).val := by show 2 + 1 * (x 1).val = _; omega
      have e0 : rHead2.emb x 0 = x 0 := Fin.ext (by show 0 + 1 * (x 0).val = _; omega)
      have e2 : rHead2.emb x 2 = x 2 := Fin.ext (by show 0 + 1 * (x 2).val = _; omega)
      simp only [e0, e1, e2]
  rcases List.mem_cons.mp hpc with rfl | hpc
  · intro x
    refine Eq.trans ?_ ((rope_0 a w s ws co si (x 0) (x 1) (x 2)).trans ?_)
    · exact congrArg _ (ValueIdx.eq_ix3 x)
    · have e1 : (rHead0.emb x 1).val = 0 + (x 1).val := by show 0 + 1 * (x 1).val = _; omega
      have e0 : rHead0.emb x 0 = x 0 := Fin.ext (by show 0 + 1 * (x 0).val = _; omega)
      have e2 : rHead0.emb x 2 = x 2 := Fin.ext (by show 0 + 1 * (x 2).val = _; omega)
      simp only [e0, e1, e2]
  nomatch hpc

end Cert.KernelIdeal.Body

end
-- ==== Proof.KernelCodes.lean ====
/- The rows' scales and codes as the kernel computes them, by counting the powers of two that a row's ratio reaches, are the
   scales and codes of Spec.lean; the angles' cosines and sines, and the rotated heads, likewise. -/
module

public import proofs.«01_k».proof.Proof.KernelRows
public import proofs.«01_k».proof.Proof.KernelHeads

@[expose] public section

noncomputable section

namespace Cert.KernelIdeal.Body

open Cert.KernelIdeal Cert.KernelIdeal.Gen
open Idealize.ShloMosaic Idealize.ShloMosaic.TcCoe Idealize.ShloMosaic.Tactic

/-- The word of a row's exponent, from its count. -/
def exponentWord (c : ℕ) : BitVec 32 := if c = 0 ∨ c = 255 then 0#32 else IntOp.subi (BitVec.ofNat 32 c) 126#32

/-- The kernel's choice between zero and the count less 126, for each count. -/
theorem exponentWord_eq : ∀ (c : Fin 256) (z : Bool), (z = true → c.val = 0) →
    Scalar.select (IntOp.ori (IntOp.ori (IntOp.cmpi .eq (BitVec.ofNat 32 c.val) 0#32) (IntOp.cmpi .eq (BitVec.ofNat 32 c.val) 255#32))
      (BitVec.ofBool z)) 0#32 (IntOp.subi (BitVec.ofNat 32 c.val) 126#32) = exponentWord c.val := by
  unfold exponentWord
  decide +kernel

/-- The bits of the scale, for each count. -/
theorem scaleWord : ∀ c : Fin 256, IntOp.shli ArithUnit.vector (IntOp.maxsi (IntOp.addi (exponentWord c.val) 127#32) 0#32) 23#32
    = BitVec.ofNat 32 (max (Qkv.countExponent c.val + 127) 0).toNat <<< 23 := by
  unfold exponentWord Qkv.countExponent
  decide +kernel

/-- The bits of the scale's inverse, for each count. -/
theorem inverseWord : ∀ c : Fin 256,
    IntOp.shli ArithUnit.vector (IntOp.maxsi (IntOp.addi (IntOp.subi 0#32 (exponentWord c.val)) 127#32) 0#32) 23#32
    = BitVec.ofNat 32 (max (-Qkv.countExponent c.val + 127) 0).toNat <<< 23 := by
  unfold exponentWord Qkv.countExponent
  decide +kernel

/-- A threshold adds one to the count if it is not the first and is reached. -/
theorem counted (n : Fin 256) (q : Prop) [Decidable q] :
    (Scalar.select (IntOp.andi (IntOp.cmpi .sgt (BitVec.ofNat 32 n.val) 0#32) (BitVec.ofBool (decide q))) 1#32 0#32).toNat
      = if 0 < n.val ∧ q then 1 else 0 := by
  have h : ∀ (n : Fin 256) (b : Bool), (Scalar.select (IntOp.andi (IntOp.cmpi .sgt (BitVec.ofNat 32 n.val) 0#32) (BitVec.ofBool b)) 1#32 0#32).toNat
      = if 0 < n.val ∧ b = true then 1 else 0 := by decide +kernel
  rw [h]
  simp only [decide_eq_true_eq]

section Rows

variable (x : Vec Ideal S192x8192 .bf16) (g : Vec Ideal S1x8192 .f32)
variable (X : Fin 192 → Fin 8192 → EReal) (G : Fin 8192 → EReal)
  (hx : ∀ r k, x (ix2 r k) = X r k) (hg : ∀ k, g (ix2 0 k) = G k)

include hx hg

/-- The count of a row's thresholds. -/
theorem count_at (r : Fin 192) : k0_pay24 x g (ix2 r 0) = BitVec.ofNat 32 (Qkv.count (Qkv.ratio X G r)) := by
  have hc := Qkv.count_lt (Qkv.ratio X G r)
  apply BitVec.eq_of_toNat_eq
  rw [BitVec.toNat_ofNat, Nat.mod_eq_of_lt (by omega), count_fold]
  have hs : ∑ i ∈ Finset.univ.filter (fun i => reduces_S192x256_S192.drop i = ix1 r),
      (Scalar.select (IntOp.andi (IntOp.cmpi .sgt (BitVec.ofNat 32 (i 1).val) 0#32)
        (BitVec.ofBool (decide (Qkv.threshold (i 1).val ≤ k0_pay23 x g (ix2 (i 0) 0) * Ideal.ofBits .f32 991054117#32)))) 1#32 0#32).toNat
      = Qkv.count (Qkv.ratio X G r) := by
    rw [Shape.Reduces.sum_fiber_r2_a1]
    unfold Qkv.count
    rw [Finset.card_filter]
    refine Finset.sum_congr rfl fun n _ => ?_
    refine (counted n _).trans ?_
    have e : k0_pay23 x g (ix2 r 0) * Ideal.ofBits .f32 991054117#32 = Qkv.ratio X G r := by
      rw [top_at x g X G hx hg]
      rfl
    refine if_congr (and_congr Iff.rfl ?_) rfl rfl
    rw [← e]
    exact Iff.rfl
  exact (WordSum.toNat_multiReductionI_add _ reduces_S192x256_S192 rfl (ix1 r) (hs.trans_lt (by omega))).trans hs

/-- A row of zeros reaches no threshold. -/
theorem top_zero (r : Fin 192) (h : (k0_pay23 x g (ix2 r 0) : EReal) = (0 : EReal)) : Qkv.count (Qkv.ratio X G r) = 0 := by
  rw [top_at x g X G hx hg] at h
  apply Qkv.count_of_lt
  have e : Qkv.ratio X G r = 0 := (congrArg (fun u : EReal => u * Ideal.ofBits .f32 991054117#32) h).trans (zero_mul _)
  rw [e, Qkv.tiny_eq]
  exact_mod_cast (by positivity : (0 : ℝ) < (2 : ℝ) ^ (-126 : ℤ))

/-- The word of a row's exponent. -/
theorem word_at (r : Fin 192) : k0_pay26 (k0_pay23 x g) (k0_pay24 x g) (k0_pay25 x g) (zeroF (F := Ideal)) (ix2 r 0)
    = exponentWord (Qkv.count (Qkv.ratio X G r)) := by
  have hc := Qkv.count_lt (Qkv.ratio X G r)
  have hz : decide ((k0_pay23 x g (ix2 r 0) : EReal) = (0 : EReal)) = true → Qkv.count (Qkv.ratio X G r) = 0 :=
    fun h => top_zero x g X G hx hg r (of_decide_eq_true h)
  have hn := count_at x g X G hx hg r
  revert hz hn hc
  generalize Qkv.count (Qkv.ratio X G r) = c
  intro hc hz hn
  have h := exponentWord_eq ⟨c, hc⟩ _ hz
  refine Eq.trans ?_ h
  simp only [← hn]
  pointwise [k0_pay26, k0_pay25]

/-- The scales. -/
theorem scalesV_at (r : Fin 192) : scalesV x g (ix2 r 0) = Qkv.scale X G r := by
  have hc := Qkv.count_lt (Qkv.ratio X G r)
  have h : scalesV x g (ix2 r 0) = Ideal.ofBits .f32 (IntOp.shli ArithUnit.vector (IntOp.maxsi (IntOp.addi
      (k0_pay26 (k0_pay23 x g) (k0_pay24 x g) (k0_pay25 x g) (zeroF (F := Ideal)) (ix2 r 0)) 127#32) 0#32) 23#32) := by
    pointwise [scalesV, k0_pay27]
  have w := scaleWord ⟨Qkv.count (Qkv.ratio X G r), hc⟩
  have e : Ideal.ofBits .f32 (BitVec.ofNat 32 (max (Qkv.countExponent (Qkv.count (Qkv.ratio X G r)) + 127) 0).toNat <<< 23)
      = Qkv.scale X G r := (Qkv.scale_count (Qkv.ratio X G r)).1
  rw [h, word_at x g X G hx hg, w, e]

/-- The codes. -/
theorem codesV_at (r : Fin 192) (k : Fin 8192) : codesV x g (ix2 r k) = Qkv.code X G r k := by
  have hc := Qkv.count_lt (Qkv.ratio X G r)
  have h : codesV x g (ix2 r k) = min (Ideal.ofBits .f32 1138753536#32) (max (Ideal.ofBits .f32 3286237184#32)
      (k0_pay22 x g (ix2 r k) * Ideal.ofBits .f32 (IntOp.shli ArithUnit.vector (IntOp.maxsi (IntOp.addi (IntOp.subi 0#32
      (k0_pay26 (k0_pay23 x g) (k0_pay24 x g) (k0_pay25 x g) (zeroF (F := Ideal)) (ix2 r 0))) 127#32) 0#32) 23#32))) := by
    pointwise [codesV, k0_pay28]
  rw [h, word_at x g X G hx hg, inverseWord ⟨_, hc⟩, norm_at x g X G hx hg]
  have e : Ideal.ofBits .f32 (BitVec.ofNat 32 (max (-Qkv.countExponent (Qkv.count (Qkv.ratio X G r)) + 127) 0).toNat <<< 23)
      = Qkv.inverse X G r := (Qkv.scale_count (Qkv.ratio X G r)).2
  rw [e]
  rfl

end Rows

/-- Choosing by a lane's half. -/
theorem half : ∀ (l : Fin 128) (u v : EReal), Scalar.select (IntOp.cmpi .slt (BitVec.ofNat 32 l.val) 64#32) u v = if l.val < 64 then u else v := by
  intro l u v
  have h : ∀ l : Fin 128, IntOp.cmpi .slt (BitVec.ofNat 32 l.val) 64#32 = BitVec.ofBool (decide (l.val < 64)) := by decide +kernel
  rw [h]
  by_cases hl : l.val < 64 <;> simp [hl, Scalar.select]

section Angles

variable (p : Vec Ideal S192x1 .i32) (f : Vec Ideal S1x128 .f32) (P : Fin 192 → BitVec 32)
  (hp : ∀ r, p (ix2 r 0) = P r)
  (hf : ∀ l : Fin 128, f (ix2 0 l) = Ideal.pow (Ideal.ofBits .f32 1176256512#32)
    (-Ideal.div (Ideal.ofBits .f32 1073741824#32 * FloatOps.sitofp (F := Ideal) .f32 (BitVec.ofNat 32 (l.val % 64))) (Ideal.ofBits .f32 1124073472#32)))

include hp hf

/-- The cosines. -/
theorem cosV_at (r : Fin 192) (l : Fin 128) : cosV p f (ix2 r l) = Ideal.cos (Qkv.angle P r (l.val % 64)) := by
  pointwise [cosV, k0_pay1, k0_pay29]
  rw [hp, hf]
  rfl

/-- The sines, negated in the first half. -/
theorem sinV_at (r : Fin 192) (l : Fin 128) : sinV p f (ix2 r l)
    = if l.val < 64 then -Ideal.sin (Qkv.angle P r (l.val % 64)) else Ideal.sin (Qkv.angle P r (l.val % 64)) := by
  pointwise [sinV, k0_pay2, k0_pay29]
  rw [hp, hf]
  refine (half l _ _).trans ?_
  rw [zero_sub]
  rfl

end Angles

/-- Heads rotated by those cosines and sines are the rotary embedding of the heads. -/
theorem rotated_eq (a : Vec Ideal S192x8192 .fp8e4m3) (w : Vec Ideal S8192x1024 .fp8e4m3) (s : Vec Ideal S192x1 .f32) (ws : Vec Ideal S1x1024 .f32)
    (co si : Vec Ideal S192x128 .f32) (P : Fin 192 → BitVec 32)
    (hc : ∀ r l, co (ix2 r l) = Ideal.cos (Qkv.angle P r (l.val % 64)))
    (hs : ∀ r l, si (ix2 r l) = if l.val < 64 then -Ideal.sin (Qkv.angle P r (l.val % 64)) else Ideal.sin (Qkv.angle P r (l.val % 64)))
    (n : ℕ) (h : n < 8) (r : Fin 192) (l : Fin 128) :
    rotated a w s ws co si n h r l = Qkv.rotary P (lane a w s ws n h r) r l := by
  have hl := l.isLt
  unfold rotated Qkv.rotary
  rw [hc, hs]
  by_cases hh : l.val < 64
  · have e : across l = ⟨64 + l.val, by omega⟩ := Fin.ext (by show (l.val + 128 - 64) % 128 = 64 + l.val; omega)
    rw [if_pos hh, dif_pos hh, Nat.mod_eq_of_lt hh, e, mul_neg, sub_eq_add_neg]
  · have e : across l = ⟨l.val - 64, by omega⟩ := Fin.ext (by show (l.val + 128 - 64) % 128 = l.val - 64; omega)
    have e' : l.val % 64 = l.val - 64 := by omega
    rw [if_neg hh, dif_neg hh, e, e']

end Cert.KernelIdeal.Body

end
-- ==== Proof.KernelArrays.lean ====
/- The blocks that the kernel's grid points read, entry by entry, in terms of the arguments. -/
module

public import proofs.«01_k».proof.Proof.IdealFrame
public import proofs.«01_k».proof.Proof.KernelCodes
public import Idealize.ShloMosaic.Lib.Pipeline.Value
public import Idealize.ShloMosaic.Lib.StableHlo.ReadAt

@[expose] public section

noncomputable section

namespace Cert.KernelIdeal.Body

open Cert.KernelIdeal Cert.KernelIdeal.Gen
open Idealize.ShloMosaic Idealize.ShloMosaic.TcCoe Idealize.ShloMosaic.Tactic

variable (m : (ℓ : Loc nD τ sig) → Buf (Elt Ideal) ℓ) (c : Dev nD)

/-- The input as a table. -/
def argX (r : Fin 192) (k : Fin 8192) : EReal := m ((c : Thread nD τ).loc main_arg0) (ix3 r 0 k)

/-- The gain as a table. -/
def argG (k : Fin 8192) : EReal := m ((c : Thread nD τ).loc main_arg1) (ix1 k)

/-- The weight codes as a table. -/
def argW (k : Fin 8192) (j : Fin 10240) : EReal := m ((c : Thread nD τ).loc main_arg2) (ix2 k j)

/-- The weight scales as a table. -/
def argS (j : Fin 10240) : EReal := m ((c : Thread nD τ).loc main_arg3) (ix1 j)

/-- The positions as a table. -/
def argP (r : Fin 192) : BitVec 32 := m ((c : Thread nD τ).loc main_arg4) (ix2 r 0)

/-- The reshaped input is the input. -/
theorem v12_at (r : Fin 192) (k : Fin 8192) : V m c main_v12 (ix2 r k) = argX m c r k := by
  unfold V
  after_reads_at
  rfl

/-- The reshaped gain is the gain. -/
theorem v13_at (k : Fin 8192) : V m c main_v13 (ix2 0 k) = argG m c k := by
  unfold V
  after_reads_at
  rfl

/-- The reshaped weight scales are the weight scales. -/
theorem v14_at (j : Fin 10240) : V m c main_v14 (ix2 0 j) = argS m c j := by
  unfold V
  after_reads_at
  rfl

/-- The frequencies: negative powers of ten thousand, the same in both halves of a head. -/
theorem v11_at (l : Fin 128) : V m c main_v11 (ix2 0 l) = Ideal.pow (Ideal.ofBits .f32 1176256512#32)
    (-Ideal.div (Ideal.ofBits .f32 1073741824#32 * FloatOps.sitofp (F := Ideal) .f32 (BitVec.ofNat 32 (l.val % 64))) (Ideal.ofBits .f32 1124073472#32)) := by
  unfold V
  after_reads_simp
  pointwise
  have hl := l.isLt
  by_cases h : l.val < 64
  · rw [dif_pos h, Nat.mod_eq_of_lt h]
    after_reads_at
  · have e : l.val % 64 = l.val - 64 := by omega
    rw [dif_neg h, e]
    after_reads_at

/-- A block that is the whole of its array. -/
theorem iblk_0 (t : Fin cfg0.N) : (iblk m c 0 t : Vec Ideal S192x8192 .bf16) = V m c main_v12 := by
  have hz : (fun a => (win0_0.index t) a * main_v12.ty.shape.size a) = fun _ => 0 :=
    funext fun a => by
      have h : ∀ t : Fin grid0.N, ∀ a, win0_0.index t a = 0 := by decide +kernel
      show win0_0.index t a * _ = 0
      rw [h t a, Nat.zero_mul]
  exact Memref.read_access_unit_zero (Elt Ideal) main_v12 hz (fun a => by rw [congrFun hz a]; simp) (V m c main_v12)

/-- Every point's block of the gain is the whole gain. -/
theorem iblk_1 (t : Fin cfg0.N) : (iblk m c 1 t : Vec Ideal S1x8192 .f32) = V m c main_v13 := by
  have hz : (fun a => (win0_1.index t) a * main_v13.ty.shape.size a) = fun _ => 0 :=
    funext fun a => by
      have h : ∀ t : Fin grid0.N, ∀ a, win0_1.index t a = 0 := by decide +kernel
      show win0_1.index t a * _ = 0
      rw [h t a, Nat.zero_mul]
  exact Memref.read_access_unit_zero (Elt Ideal) main_v13 hz (fun a => by rw [congrFun hz a]; simp) (V m c main_v13)

/-- Every point's block of the positions is all of them. -/
theorem iblk_4 (t : Fin cfg0.N) : (iblk m c 4 t : Vec Ideal S192x1 .i32) = V m c main_arg4 := by
  have hz : (fun a => (win0_4.index t) a * main_arg4.ty.shape.size a) = fun _ => 0 :=
    funext fun a => by
      have h : ∀ t : Fin grid0.N, ∀ a, win0_4.index t a = 0 := by decide +kernel
      show win0_4.index t a * _ = 0
      rw [h t a, Nat.zero_mul]
  exact Memref.read_access_unit_zero (Elt Ideal) main_arg4 hz (fun a => by rw [congrFun hz a]; simp) (V m c main_arg4)

/-- Every point's block of the frequencies is all of them. -/
theorem iblk_5 (t : Fin cfg0.N) : (iblk m c 5 t : Vec Ideal S1x128 .f32) = V m c main_v11 := by
  have hz : (fun a => (win0_5.index t) a * main_v11.ty.shape.size a) = fun _ => 0 :=
    funext fun a => by
      have h : ∀ t : Fin grid0.N, ∀ a, win0_5.index t a = 0 := by decide +kernel
      show win0_5.index t a * _ = 0
      rw [h t a, Nat.zero_mul]
  exact Memref.read_access_unit_zero (Elt Ideal) main_v11 hz (fun a => by rw [congrFun hz a]; simp) (V m c main_v11)

/-- There are ten grid points. -/
theorem lt10 (t : Fin cfg0.N) : t.val < 10 := t.isLt

/-- The weights of grid point `t` are the columns from `1024 * t` on. -/
theorem iblk_2 (t : Fin cfg0.N) (k : Fin 8192) (j : Fin 1024) :
    (iblk m c 2 t : Vec Ideal S8192x1024 .fp8e4m3) (ix2 k j) = argW m c k ⟨t.val * 1024 + j.val, by have := lt10 t; omega⟩ := by
  have hi : ∀ t : Fin grid0.N, win0_2.index t 0 = 0 ∧ win0_2.index t 1 = t.val := by decide +kernel
  unfold iblk argW
  rw [View.read_apply, ← V_main_arg2 m c]
  show V m c main_arg2 _ = V m c main_arg2 _
  congr 1
  funext a
  apply Fin.ext
  match a with
  | ⟨0, _⟩ => show win0_2.index t 0 * 8192 + 1 * k.val = k.val; rw [(hi t).1]; omega
  | ⟨1, _⟩ => show win0_2.index t 1 * 1024 + 1 * j.val = t.val * 1024 + j.val; rw [(hi t).2]; omega

/-- The weight scales of grid point `t` are those from `1024 * t` on. -/
theorem iblk_3 (t : Fin cfg0.N) (j : Fin 1024) :
    (iblk m c 3 t : Vec Ideal S1x1024 .f32) (ix2 0 j) = argS m c ⟨t.val * 1024 + j.val, by have := lt10 t; omega⟩ := by
  have hi : ∀ t : Fin grid0.N, win0_3.index t 0 = 0 ∧ win0_3.index t 1 = t.val := by decide +kernel
  unfold iblk
  rw [View.read_apply, ← v14_at m c]
  show V m c main_v14 _ = V m c main_v14 _
  congr 1
  funext a
  apply Fin.ext
  match a with
  | ⟨0, _⟩ => show win0_3.index t 0 * 1 + 1 * 0 = 0; rw [(hi t).1]
  | ⟨1, _⟩ => show win0_3.index t 1 * 1024 + 1 * j.val = t.val * 1024 + j.val; rw [(hi t).2]; omega

end Cert.KernelIdeal.Body

end
-- ==== Proof.KernelValue.lean ====
/- What the kernel's run leaves in its results: the functions of Spec.lean, of the arguments. -/
module

public import proofs.«01_k».proof.Proof.KernelArrays

@[expose] public section

set_option maxRecDepth 16384

noncomputable section

namespace Cert.KernelIdeal.Body

open Cert.KernelIdeal Cert.KernelIdeal.Gen
open Idealize.ShloMosaic Idealize.SL.Sem Idealize.ShloMosaic.TcCoe Idealize.ShloMosaic.Tactic
open Idealize.ShloMosaic.Pipeline (Dat Cfg Window)

variable (m : (ℓ : Loc nD τ sig) → Buf (Elt Ideal) ℓ) (ρ : Dev nD → PrngReg) (c : Dev nD)

/-- An entry of the codes. -/
theorem codesOf_at (r : Fin 192) (k : Fin 8192) : codesOf m c (ix2 r k) = Qkv.code (argX m c) (argG m c) r k :=
  codesV_at (iblk m c 0 t0_0) (iblk m c 1 t0_0) _ _ (fun r k => (congrFun (iblk_0 m c t0_0) _).trans (v12_at m c r k))
    (fun k => (congrFun (iblk_1 m c t0_0) _).trans (v13_at m c k)) r k

/-- An entry of the scales. -/
theorem scalesOf_at (r : Fin 192) : scalesOf m c (ix2 r 0) = Qkv.scale (argX m c) (argG m c) r :=
  scalesV_at (iblk m c 0 t0_0) (iblk m c 1 t0_0) _ _ (fun r k => (congrFun (iblk_0 m c t0_0) _).trans (v12_at m c r k))
    (fun k => (congrFun (iblk_1 m c t0_0) _).trans (v13_at m c k)) r

/-- A row's position. -/
theorem position_at (t : Fin cfg0.N) (r : Fin 192) : (iblk m c 4 t : Vec Ideal S192x1 .i32) (ix2 r 0) = argP m c r :=
  (congrFun (iblk_4 m c t) _).trans (congrFun (V_main_arg4 m c) _)

/-- An entry of the cosines. -/
theorem cosOf_at (r : Fin 192) (l : Fin 128) : cosOf m c (ix2 r l) = Ideal.cos (Qkv.angle (argP m c) r (l.val % 64)) :=
  cosV_at (iblk m c 4 t0_0) (iblk m c 5 t0_0) _ (position_at m c t0_0)
    (fun l => (congrFun (iblk_5 m c t0_0) _).trans (v11_at m c l)) r l

/-- An entry of the signed sines. -/
theorem sinOf_at (r : Fin 192) (l : Fin 128) : sinOf m c (ix2 r l)
    = if l.val < 64 then -Ideal.sin (Qkv.angle (argP m c) r (l.val % 64)) else Ideal.sin (Qkv.angle (argP m c) r (l.val % 64)) :=
  sinV_at (iblk m c 4 t0_0) (iblk m c 5 t0_0) _ (position_at m c t0_0)
    (fun l => (congrFun (iblk_5 m c t0_0) _).trans (v11_at m c l)) r l

/-- A lane of grid point `t`'s product is an entry of the projection. -/
theorem lane_at (t : Fin cfg0.N) (n : ℕ) (h : n < 8) (r : Fin 192) (l : Fin 128) (o N : ℕ) (hN : o + N * 128 + 128 ≤ 10240)
    (e : t.val * 1024 + n * 128 = o + N * 128) :
    lane (codesOf m c) (iblk m c 2 t) (scalesOf m c) (iblk m c 3 t) n h r l
      = Qkv.head (argX m c) (argG m c) (argW m c) (argS m c) o r N hN l := by
  have hl := l.isLt
  have ht := lt10 t
  have hj : (⟨t.val * 1024 + (n * 128 + l.val), by omega⟩ : Fin 10240) = ⟨o + (N * 128 + l.val), by omega⟩ := Fin.ext (by
    show t.val * 1024 + (n * 128 + l.val) = o + (N * 128 + l.val); omega)
  unfold lane Qkv.head Qkv.proj
  rw [product_at, ← hj]
  refine congr (congrArg HMul.hMul (congr (congrArg HMul.hMul (Finset.sum_congr rfl fun k _ => ?_)) (scalesOf_at m c r))) (iblk_3 m c t _)
  exact congr (congrArg HMul.hMul (codesOf_at m c r k)) (iblk_2 m c t k _)

/-- The rotated heads of grid point `t`. -/
theorem ropeAt_at (t : Fin cfg0.N) (r : Fin 192) (n : Fin 8) (l : Fin 128) (o N : ℕ) (hN : o + N * 128 + 128 ≤ 10240)
    (e : t.val * 1024 + n.val * 128 = o + N * 128) :
    ropeAt m c t (ix3 r n l) = Qkv.rotary (argP m c) (Qkv.head (argX m c) (argG m c) (argW m c) (argS m c) o r N hN) r l := by
  unfold ropeAt
  rw [ropeV_at, rotated_eq _ _ _ _ _ _ (argP m c) (cosOf_at m c) (sinOf_at m c)]
  exact congrArg (fun T => Qkv.rotary (argP m c) T r l) (funext fun l => lane_at m c t n.val n.isLt r l o N hN e)

/-- The plain heads of grid point `t`. -/
theorem plainAt_at (t : Fin cfg0.N) (r : Fin 192) (n : Fin 8) (l : Fin 128) (o N : ℕ) (hN : o + N * 128 + 128 ≤ 10240)
    (e : t.val * 1024 + n.val * 128 = o + N * 128) :
    plainAt m c t (ix3 r n l) = Qkv.head (argX m c) (argG m c) (argW m c) (argS m c) o r N hN l := by
  unfold plainAt
  rw [plainV_at]
  exact lane_at m c t n.val n.isLt r l o N hN e

/-- The queries. -/
def queries : Vec Ideal S192x64x128 .bf16 := fun i => Qkv.query (argX m c) (argG m c) (argW m c) (argS m c) (argP m c) (i 0) (i 1) (i 2)
/-- The keys. -/
def keys : Vec Ideal S192x8x128 .bf16 := fun i => Qkv.key (argX m c) (argG m c) (argW m c) (argS m c) (argP m c) (i 0) (i 1) (i 2)
/-- The values. -/
def values : Vec Ideal S192x8x128 .bf16 := fun i => Qkv.value (argX m c) (argG m c) (argW m c) (argS m c) (i 0) (i 1) (i 2)
/-- The codes. -/
def codes : Vec Ideal S192x8192 .fp8e4m3 := fun i => Qkv.code (argX m c) (argG m c) (i 0) (i 1)
/-- The scales. -/
def scales : Vec Ideal S192x1 .f32 := fun i => Qkv.scale (argX m c) (argG m c) (i 0)

/-- The ninth point makes the keys. -/
theorem keys_eq : ropeAt m c t0_8 = keys m c := by
  funext i
  obtain ⟨r, n, l, rfl⟩ : ∃ r n l, i = ix3 r n l := ⟨i 0, i 1, i 2, ValueIdx.eq_ix3 i⟩
  exact ropeAt_at m c t0_8 r n l 8192 n.val (by omega) rfl

/-- The tenth point makes the values. -/
theorem values_eq : plainAt m c t0_9 = values m c := by
  funext i
  obtain ⟨r, n, l, rfl⟩ : ∃ r n l, i = ix3 r n l := ⟨i 0, i 1, i 2, ValueIdx.eq_ix3 i⟩
  exact plainAt_at m c t0_9 r n l 9216 n.val (by omega) rfl

/-- The codes, as an array. -/
theorem codes_eq : codesOf m c = codes m c := by
  funext i
  obtain ⟨r, k, rfl⟩ : ∃ r k, i = ix2 r k := ⟨i 0, i 1, ValueIdx.eq_ix2 i⟩
  exact codesOf_at m c r k

/-- The scales, as an array. -/
theorem scales_eq : scalesOf m c = scales m c := by
  funext i
  obtain ⟨r, k, rfl⟩ : ∃ r k, i = ix2 r k := ⟨i 0, i 1, ValueIdx.eq_ix2 i⟩
  obtain rfl : k = 0 := Subsingleton.elim _ _
  exact scalesOf_at m c r

/-! ## The arrays at the end -/

/-- Queries come from the first eight points. -/
theorem qPoint_lt (t : Fin cfg0.N) : (qPoint t).val < 8 := by
  unfold qPoint
  split
  · assumption
  · exact (by decide : (7 : ℕ) < 8)

/-- Where the block of queries of a point lies. -/
theorem index_6 : ∀ t : Fin grid0.N, win0_6.index t 0 = 0 ∧ win0_6.index t 1 = min t.val 7 ∧ win0_6.index t 2 = 0 := by decide +kernel

/-- The point that the queries in the buffer come from: this one, or the eighth. -/
theorem qPoint_val (t : Fin cfg0.N) : (qPoint t).val = min t.val 7 := by
  unfold qPoint
  split
  · omega
  · show 7 = min t.val 7; omega

/-- What is written back of the queries is a block of the result. -/
theorem flushed_6 (t : Fin cfg0.N) : (dats m 0 c).flushed 6 t = ((cfg0.win 6).blk t).view.read (Elt Ideal) (queries m c) := by
  show (cfg0.win 6).cut (grid0.coords t) ((dats m 0 c).after 6 t) = _
  rw [after0_6]
  funext i
  rw [View.read_apply]
  show ropeAt m c (qPoint t) i = queries m c _
  obtain ⟨r, n, l, rfl⟩ : ∃ (r : Fin 192) (n : Fin 8) (l : Fin 128), i = ix3 r n l := ⟨i 0, i 1, i 2, ValueIdx.eq_ix3 i⟩
  have hq := qPoint_lt t
  have hn := n.isLt
  obtain ⟨h0, h1, h2⟩ := index_6 t
  refine (ropeAt_at m c (qPoint t) r n l 0 ((qPoint t).val * 8 + n.val) (by omega) (by omega)).trans ?_
  refine Eq.trans (b := queries m c (ix3 r ⟨(qPoint t).val * 8 + n.val, by omega⟩ l)) rfl ?_
  congr 1
  funext a
  apply Fin.ext
  match a with
  | ⟨0, _⟩ => show r.val = win0_6.index t 0 * 192 + 1 * r.val; rw [h0]; omega
  | ⟨1, _⟩ => show (qPoint t).val * 8 + n.val = win0_6.index t 1 * 8 + 1 * n.val; rw [h1, qPoint_val]; omega
  | ⟨2, _⟩ => show l.val = win0_6.index t 2 * 128 + 1 * l.val; rw [h2]; omega

/-- At the end the array of the queries is the result. -/
theorem final_6 : (dats m 0 c).arrAt 6 cfg0.N = queries m c :=
  (dats m 0 c).arrAt_eq_of_cover 6 (queries m c) (fun t _ => flushed_6 m c t) fun i => by
    have h0 : (i 0 : Nat) < 192 := (i 0).isLt
    have h1 : (i 1 : Nat) < 64 := (i 1).isLt
    have h2 : (i 2 : Nat) < 128 := (i 2).isLt
    obtain ⟨t, hf, ht⟩ : ∃ t : Fin cfg0.N, (t.val < 7 ∨ t.val = 9) ∧ min t.val 7 = (i 1 : Nat) / 8 := by
      by_cases h : (i 1 : Nat) / 8 < 7
      · exact ⟨⟨(i 1 : Nat) / 8, show _ < 10 by omega⟩, Or.inl h, by show min ((i 1 : Nat) / 8) 7 = _; omega⟩
      · exact ⟨t0_9, Or.inr rfl, by show min 9 7 = _; omega⟩
    obtain ⟨e0, e1, e2⟩ := index_6 t
    refine ⟨t, (flush0_6 t).mpr hf, ?_⟩
    show i ∈ ((View.whole main_v15_0).slice (win0_6.rect t)).set
    rw [View.set_slice_whole, Rect.mem_set_unit]
    intro a
    match a with
    | ⟨0, _⟩ => show win0_6.index t 0 * 192 ≤ (i 0 : Nat) ∧ (i 0 : Nat) < win0_6.index t 0 * 192 + 192
                rw [e0]; omega
    | ⟨1, _⟩ => show win0_6.index t 1 * 8 ≤ (i 1 : Nat) ∧ (i 1 : Nat) < win0_6.index t 1 * 8 + 8
                rw [e1, ht]; omega
    | ⟨2, _⟩ => show win0_6.index t 2 * 128 ≤ (i 2 : Nat) ∧ (i 2 : Nat) < win0_6.index t 2 * 128 + 128
                rw [e2]; omega

/-- The block of the keys is the first at every point. -/
theorem index_7 : ∀ t : Fin grid0.N, ∀ a, win0_7.index t a = 0 := by decide +kernel

/-- What is written back of the keys is a block of the result. -/
theorem flushed_7 (t : Fin cfg0.N) : (dats m 0 c).flushed 7 t = ((cfg0.win 7).blk t).view.read (Elt Ideal) (keys m c) := by
  show (cfg0.win 7).cut (grid0.coords t) ((dats m 0 c).after 7 t) = _
  rw [after0_7, keys_eq]
  have hz : (fun a => win0_7.index t a * main_v15_1.ty.shape.size a) = fun _ => 0 := funext fun a => by
    show win0_7.index t a * _ = 0
    rw [index_7 t a, Nat.zero_mul]
  exact (Memref.read_access_unit_zero (Elt Ideal) main_v15_1 hz (fun a => by rw [congrFun hz a]; simp) (keys m c)).symm

/-- At the end the array of the keys is the result. -/
theorem final_7 : (dats m 0 c).arrAt 7 cfg0.N = keys m c :=
  (dats m 0 c).arrAt_eq_of_cover 7 (keys m c) (fun t _ => flushed_7 m c t) fun i => by
    refine ⟨t0_9, (by decide +kernel : win0_7.flush t0_9 = true), ?_⟩
    show i ∈ ((View.whole main_v15_1).slice (win0_7.rect t0_9)).set
    rw [View.set_slice_whole, Rect.mem_set_unit]
    intro a
    have h0 : (i 0 : Nat) < 192 := (i 0).isLt
    have h1 : (i 1 : Nat) < 8 := (i 1).isLt
    have h2 : (i 2 : Nat) < 128 := (i 2).isLt
    match a with
    | ⟨0, _⟩ => show win0_7.index t0_9 0 * 192 ≤ (i 0 : Nat) ∧ (i 0 : Nat) < win0_7.index t0_9 0 * 192 + 192
                rw [index_7 t0_9 0]; omega
    | ⟨1, _⟩ => show win0_7.index t0_9 1 * 8 ≤ (i 1 : Nat) ∧ (i 1 : Nat) < win0_7.index t0_9 1 * 8 + 8
                rw [index_7 t0_9 1]; omega
    | ⟨2, _⟩ => show win0_7.index t0_9 2 * 128 ≤ (i 2 : Nat) ∧ (i 2 : Nat) < win0_7.index t0_9 2 * 128 + 128
                rw [index_7 t0_9 2]; omega

/-- The block of the values is the first at every point. -/
theorem index_8 : ∀ t : Fin grid0.N, ∀ a, win0_8.index t a = 0 := by decide +kernel

/-- What is written back of the values is a block of the result. -/
theorem flushed_8 (t : Fin cfg0.N) : (dats m 0 c).flushed 8 t = ((cfg0.win 8).blk t).view.read (Elt Ideal) (values m c) := by
  show (cfg0.win 8).cut (grid0.coords t) ((dats m 0 c).after 8 t) = _
  rw [after0_8, values_eq]
  have hz : (fun a => win0_8.index t a * main_v15_2.ty.shape.size a) = fun _ => 0 := funext fun a => by
    show win0_8.index t a * _ = 0
    rw [index_8 t a, Nat.zero_mul]
  exact (Memref.read_access_unit_zero (Elt Ideal) main_v15_2 hz (fun a => by rw [congrFun hz a]; simp) (values m c)).symm

/-- At the end the array of the values is the result. -/
theorem final_8 : (dats m 0 c).arrAt 8 cfg0.N = values m c :=
  (dats m 0 c).arrAt_eq_of_cover 8 (values m c) (fun t _ => flushed_8 m c t) fun i => by
    refine ⟨t0_9, (by decide +kernel : win0_8.flush t0_9 = true), ?_⟩
    show i ∈ ((View.whole main_v15_2).slice (win0_8.rect t0_9)).set
    rw [View.set_slice_whole, Rect.mem_set_unit]
    intro a
    have h0 : (i 0 : Nat) < 192 := (i 0).isLt
    have h1 : (i 1 : Nat) < 8 := (i 1).isLt
    have h2 : (i 2 : Nat) < 128 := (i 2).isLt
    match a with
    | ⟨0, _⟩ => show win0_8.index t0_9 0 * 192 ≤ (i 0 : Nat) ∧ (i 0 : Nat) < win0_8.index t0_9 0 * 192 + 192
                rw [index_8 t0_9 0]; omega
    | ⟨1, _⟩ => show win0_8.index t0_9 1 * 8 ≤ (i 1 : Nat) ∧ (i 1 : Nat) < win0_8.index t0_9 1 * 8 + 8
                rw [index_8 t0_9 1]; omega
    | ⟨2, _⟩ => show win0_8.index t0_9 2 * 128 ≤ (i 2 : Nat) ∧ (i 2 : Nat) < win0_8.index t0_9 2 * 128 + 128
                rw [index_8 t0_9 2]; omega

/-- The block of the codes is the first at every point. -/
theorem index_9 : ∀ t : Fin grid0.N, ∀ a, win0_9.index t a = 0 := by decide +kernel

/-- What is written back of the codes is a block of the result. -/
theorem flushed_9 (t : Fin cfg0.N) : (dats m 0 c).flushed 9 t = ((cfg0.win 9).blk t).view.read (Elt Ideal) (codes m c) := by
  show (cfg0.win 9).cut (grid0.coords t) ((dats m 0 c).after 9 t) = _
  rw [after0_9, codes_eq]
  have hz : (fun a => win0_9.index t a * main_v15_3.ty.shape.size a) = fun _ => 0 := funext fun a => by
    show win0_9.index t a * _ = 0
    rw [index_9 t a, Nat.zero_mul]
  exact (Memref.read_access_unit_zero (Elt Ideal) main_v15_3 hz (fun a => by rw [congrFun hz a]; simp) (codes m c)).symm

/-- At the end the array of the codes is the result. -/
theorem final_9 : (dats m 0 c).arrAt 9 cfg0.N = codes m c :=
  (dats m 0 c).arrAt_eq_of_cover 9 (codes m c) (fun t _ => flushed_9 m c t) fun i => by
    refine ⟨t0_9, (by decide +kernel : win0_9.flush t0_9 = true), ?_⟩
    show i ∈ ((View.whole main_v15_3).slice (win0_9.rect t0_9)).set
    rw [View.set_slice_whole, Rect.mem_set_unit]
    intro a
    have h0 : (i 0 : Nat) < 192 := (i 0).isLt
    have h1 : (i 1 : Nat) < 8192 := (i 1).isLt
    match a with
    | ⟨0, _⟩ => show win0_9.index t0_9 0 * 192 ≤ (i 0 : Nat) ∧ (i 0 : Nat) < win0_9.index t0_9 0 * 192 + 192
                rw [index_9 t0_9 0]; omega
    | ⟨1, _⟩ => show win0_9.index t0_9 1 * 8192 ≤ (i 1 : Nat) ∧ (i 1 : Nat) < win0_9.index t0_9 1 * 8192 + 8192
                rw [index_9 t0_9 1]; omega

/-- The block of the scales is the first at every point. -/
theorem index_10 : ∀ t : Fin grid0.N, ∀ a, win0_10.index t a = 0 := by decide +kernel

/-- What is written back of the scales is a block of the result. -/
theorem flushed_10 (t : Fin cfg0.N) : (dats m 0 c).flushed 10 t = ((cfg0.win 10).blk t).view.read (Elt Ideal) (scales m c) := by
  show (cfg0.win 10).cut (grid0.coords t) ((dats m 0 c).after 10 t) = _
  rw [after0_10, scales_eq]
  have hz : (fun a => win0_10.index t a * main_v15_4.ty.shape.size a) = fun _ => 0 := funext fun a => by
    show win0_10.index t a * _ = 0
    rw [index_10 t a, Nat.zero_mul]
  exact (Memref.read_access_unit_zero (Elt Ideal) main_v15_4 hz (fun a => by rw [congrFun hz a]; simp) (scales m c)).symm

/-- At the end the array of the scales is the result. -/
theorem final_10 : (dats m 0 c).arrAt 10 cfg0.N = scales m c :=
  (dats m 0 c).arrAt_eq_of_cover 10 (scales m c) (fun t _ => flushed_10 m c t) fun i => by
    refine ⟨t0_9, (by decide +kernel : win0_10.flush t0_9 = true), ?_⟩
    show i ∈ ((View.whole main_v15_4).slice (win0_10.rect t0_9)).set
    rw [View.set_slice_whole, Rect.mem_set_unit]
    intro a
    have h0 : (i 0 : Nat) < 192 := (i 0).isLt
    have h1 : (i 1 : Nat) < 1 := (i 1).isLt
    match a with
    | ⟨0, _⟩ => show win0_10.index t0_9 0 * 192 ≤ (i 0 : Nat) ∧ (i 0 : Nat) < win0_10.index t0_9 0 * 192 + 192
                rw [index_10 t0_9 0]; omega
    | ⟨1, _⟩ => show win0_10.index t0_9 1 * 1 ≤ (i 1 : Nat) ∧ (i 1 : Nat) < win0_10.index t0_9 1 * 1 + 1
                rw [index_10 t0_9 1]; omega

/-- The run leaves the queries in their array. -/
theorem post_6 (r : PUnit × MemSt nD τ sig (Elt Ideal)) (h : Pipeline.FramePost cfgs (dats m) 0 (V m) r) :
    r.2.mem ((c : Thread nD τ).loc main_v15_0) = queries m c :=
  Eq.trans (b := (dats m 0 c).arrAt 6 cfg0.N) ((h c).1 6) (final_6 m c)

/-- The run leaves the keys in their array. -/
theorem post_7 (r : PUnit × MemSt nD τ sig (Elt Ideal)) (h : Pipeline.FramePost cfgs (dats m) 0 (V m) r) :
    r.2.mem ((c : Thread nD τ).loc main_v15_1) = keys m c :=
  Eq.trans (b := (dats m 0 c).arrAt 7 cfg0.N) ((h c).1 7) (final_7 m c)

/-- The run leaves the values in their array. -/
theorem post_8 (r : PUnit × MemSt nD τ sig (Elt Ideal)) (h : Pipeline.FramePost cfgs (dats m) 0 (V m) r) :
    r.2.mem ((c : Thread nD τ).loc main_v15_2) = values m c :=
  Eq.trans (b := (dats m 0 c).arrAt 8 cfg0.N) ((h c).1 8) (final_8 m c)

/-- The run leaves the codes in their array. -/
theorem post_9 (r : PUnit × MemSt nD τ sig (Elt Ideal)) (h : Pipeline.FramePost cfgs (dats m) 0 (V m) r) :
    r.2.mem ((c : Thread nD τ).loc main_v15_3) = codes m c :=
  Eq.trans (b := (dats m 0 c).arrAt 9 cfg0.N) ((h c).1 9) (final_9 m c)

/-- The run leaves the scales in their array. -/
theorem post_10 (r : PUnit × MemSt nD τ sig (Elt Ideal)) (h : Pipeline.FramePost cfgs (dats m) 0 (V m) r) :
    r.2.mem ((c : Thread nD τ).loc main_v15_4) = scales m c :=
  Eq.trans (b := (dats m 0 c).arrAt 10 cfg0.N) ((h c).1 10) (final_10 m c)

/-- The kernel's run: its results are the functions of Spec.lean, and its arguments are kept. -/
theorem run : θ_run defs (onTc (τ := τ) (main (F := Ideal))) ⟨m, fun _ => 0, ρ⟩ fun r => ∀ c : Dev nD,
      r.2.mem ((c : Thread nD τ).loc main_v15_0) = queries m c
      ∧ r.2.mem ((c : Thread nD τ).loc main_v15_1) = keys m c
      ∧ r.2.mem ((c : Thread nD τ).loc main_v15_2) = values m c
      ∧ r.2.mem ((c : Thread nD τ).loc main_v15_3) = codes m c
      ∧ r.2.mem ((c : Thread nD τ).loc main_v15_4) = scales m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c =>
    ⟨post_6 m c r h, post_7 m c r h, post_8 m c r h, post_9 m c r h, post_10 m c r h,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).1 4).trans (((dats m 0 c).arrAt_in 4 rfl _).trans ((A_eq m c 4).trans (V_main_arg4 m c)))⟩)
    (run_main m ρ)

end Cert.KernelIdeal.Body

end
-- ==== Proof.RefHost.lean ====
/- What the reference's host operations leave in the arrays that its `pallas_call` reads, entry by entry: the rows'
   scales, the scaled and clipped rows, the weight scales, and the angles' cosines and sines. -/
module

public import proofs.«01_k».proof.Proof.Gen.ReferenceIdeal.Frame
public import proofs.«01_k».proof.Proof.Spec
public import Idealize.ShloMosaic.Lib.StableHlo.ReadAt
public import Idealize.ShloMosaic.Lib.Pointwise
public import Idealize.ShloMosaic.Lib.ValueIdx
public import Idealize.ShloMosaic.Lib.IdealHost

@[expose] public section

noncomputable section

namespace Cert.ReferenceIdeal.Body

open Cert.ReferenceIdeal Cert.ReferenceIdeal.Gen
open Idealize.ShloMosaic Idealize.ShloMosaic.TcCoe Idealize.ShloMosaic.Tactic

variable (m : (ℓ : Loc nD τ sig) → Buf (Elt Ideal) ℓ) (c : Dev nD)

/-- The input as a table. -/
def argX (r : Fin 192) (k : Fin 8192) : EReal := m ((c : Thread nD τ).loc main_arg0) (ix3 r 0 k)

/-- The gain as a table. -/
def argG (k : Fin 8192) : EReal := m ((c : Thread nD τ).loc main_arg1) (ix1 k)

/-- The weight codes as a table. -/
def argW (k : Fin 8192) (j : Fin 10240) : EReal := m ((c : Thread nD τ).loc main_arg2) (ix2 k j)

/-- The weight scales as a table. -/
def argS (j : Fin 10240) : EReal := m ((c : Thread nD τ).loc main_arg3) (ix1 j)

/-- The positions as a table. -/
def argP (r : Fin 192) : BitVec 32 := m ((c : Thread nD τ).loc main_arg4) (ix2 r 0)

/-! ## The vector operations between the normalised rows and the clipped rows, as functions of their operands -/

/-- The exponents of the scales, from the ratios. -/
def exponentV (t : FVec Ideal S192x1 .f32) : FVec Ideal S192x1 .f32 :=
  select (ori (cmpf .olt t (broadcastInDim S192x1 ![] bcast_S_S192x1 (constant S_ .f32 0x00800000#32)))
      (cmpf .oeq t (broadcastInDim S192x1 ![] bcast_S_S192x1 (constant S_ .f32 0x7F800000#32))))
    (broadcastInDim S192x1 ![] bcast_S_S192x1 (constant S_ .f32 0x00000000#32))
    (addf (Host.floor (Host.divf (Host.log t) (broadcastInDim S192x1 ![] bcast_S_S192x1 (Host.log (constant S_ .f32 0x40000000#32)))))
      (broadcastInDim S192x1 ![] bcast_S_S192x1 (constant S_ .f32 0x3F800000#32)))

/-- The powers of two, from the exponents. -/
def powerOfTwoV (e : FVec Ideal S192x1 .f32) : FVec Ideal S192x1 .f32 :=
  select (cmpf .ogt e (broadcastInDim S192x1 ![] bcast_S_S192x1 (constant S_ .f32 0x42FE0000#32)))
    (broadcastInDim S192x1 ![] bcast_S_S192x1 (constant S_ .f32 0x7F800000#32))
    (select (cmpf .olt e (broadcastInDim S192x1 ![] bcast_S_S192x1 (constant S_ .f32 0xC2FC0000#32)))
      (broadcastInDim S192x1 ![] bcast_S_S192x1 (constant S_ .f32 0x00000000#32))
      (Host.powf (broadcastInDim S192x1 ![] bcast_S_S192x1 (constant S_ .f32 0x40000000#32)) e))

/-- The scaled and clipped rows, from the normalised rows and the factors. -/
def clippedV (h : FVec Ideal S192x8192 .f32) (i : FVec Ideal S192x1 .f32) : FVec Ideal S192x8192 .f32 :=
  minimumf (broadcastInDim S192x8192 ![] bcast_S_S192x8192 (constant S_ .f32 0x43E00000#32))
    (maximumf (broadcastInDim S192x8192 ![] bcast_S_S192x8192 (constant S_ .f32 0xC3E00000#32))
      (mulf h (broadcastInDim S192x8192 ![0, 1] bcast_S192x1_S192x8192_0_1 i)))

/-- Choosing by the bit of a statement is choosing by the statement. -/
theorem select_ofBool {α : Type} (p : Prop) [Decidable p] (a b : α) :
    Scalar.select (BitVec.ofBool (decide p)) a b = if p then a else b := by
  by_cases h : p <;> simp [h, Scalar.select]

/-- The bitwise or of two statements' bits is the bit of their disjunction. -/
theorem ori_ofBool (p q : Prop) [Decidable p] [Decidable q] :
    IntOp.ori (BitVec.ofBool (decide p)) (BitVec.ofBool (decide q)) = BitVec.ofBool (decide (p ∨ q)) := by
  by_cases h : p <;> by_cases h' : q <;> simp [h, h', IntOp.ori]

/-- The exponents, entry by entry. -/
theorem exponentV_at (t : FVec Ideal S192x1 .f32) (j : S192x1.Idx) : exponentV t j = Qkv.exponent (t j) := by
  unfold exponentV Qkv.exponent
  pointwise
  rw [ori_ofBool, select_ofBool]

/-- The powers of two, entry by entry. -/
theorem powerOfTwoV_at (t : FVec Ideal S192x1 .f32) (j : S192x1.Idx) : powerOfTwoV t j = Qkv.powerOfTwo (t j) := by
  unfold powerOfTwoV Qkv.powerOfTwo
  pointwise

/-- The scaled and clipped rows, entry by entry. -/
theorem clippedV_at (h : FVec Ideal S192x8192 .f32) (i : FVec Ideal S192x1 .f32) (j : S192x8192.Idx) :
    clippedV h i j = min (Ideal.ofBits .f32 1138753536#32) (max (Ideal.ofBits .f32 3286237184#32) (h j * i (ix2 (j 0) 0))) := by
  unfold clippedV
  pointwise

/-! ## The buffers by these functions

The line of host operations is read in parts: what a part leaves is a function of what the parts before it left. -/

/-- What the first operations leave, up to the exponents' parts. -/
def U1 : Valuation τ sig (Elt Ideal) := StableHlo.after (hostOps0 (F := Ideal)) (fun b => m (c, b))

/-- What the operations after those leave, part 2. -/
def U2 : Valuation τ sig (Elt Ideal) := StableHlo.after (List.flatten [hostOps0_1]) (U1 m c)

/-- What the operations after those leave, part 3. -/
def U3 : Valuation τ sig (Elt Ideal) := StableHlo.after (List.flatten [hostOps0_2, hostOps0_3, hostOps0_4, hostOps0_5]) (U2 m c)

/-- What the operations after those leave, part 4. -/
def U4 : Valuation τ sig (Elt Ideal) := StableHlo.after (List.flatten [hostOps0_6, hostOps0_7, hostOps0_8, hostOps0_9]) (U3 m c)

/-- The host's arrays, with the operations up to part 1 done first. -/
theorem V_eq1 (b : Ref sig .tc) : V m c b = StableHlo.after (List.flatten [hostOps0_1, hostOps0_2, hostOps0_3, hostOps0_4, hostOps0_5, hostOps0_6, hostOps0_7, hostOps0_8, hostOps0_9, hostOps0_10, hostOps0_11, hostOps0_12]) (U1 m c) b := by
  show StableHlo.after _ _ _ = _
  rw [List.flatten_cons, StableHlo.after_append]; rfl

/-- The host's arrays, with the operations up to part 2 done first. -/
theorem V_eq2 (b : Ref sig .tc) : V m c b = StableHlo.after (List.flatten [hostOps0_2, hostOps0_3, hostOps0_4, hostOps0_5, hostOps0_6, hostOps0_7, hostOps0_8, hostOps0_9, hostOps0_10, hostOps0_11, hostOps0_12]) (U2 m c) b := by
  show StableHlo.after _ _ _ = _
  rw [show StableHlo.after _ _ _ = _ from V_eq1 m c b, U2, ← StableHlo.after_append]; rfl

/-- The host's arrays, with the operations up to part 3 done first. -/
theorem V_eq3 (b : Ref sig .tc) : V m c b = StableHlo.after (List.flatten [hostOps0_6, hostOps0_7, hostOps0_8, hostOps0_9, hostOps0_10, hostOps0_11, hostOps0_12]) (U3 m c) b := by
  show StableHlo.after _ _ _ = _
  rw [show StableHlo.after _ _ _ = _ from V_eq2 m c b, U3, ← StableHlo.after_append]; rfl

/-- The host's arrays, with the operations up to part 4 done first. -/
theorem V_eq4 (b : Ref sig .tc) : V m c b = StableHlo.after (List.flatten [hostOps0_10, hostOps0_11, hostOps0_12]) (U4 m c) b := by
  show StableHlo.after _ _ _ = _
  rw [show StableHlo.after _ _ _ = _ from V_eq3 m c b, U4, ← StableHlo.after_append]; rfl
-- ==== Proof.RefArrays.lean ====
/- The reference's arrays, entry by entry: every array that its `pallas_call` reads is, entry by entry, a function of
   Spec.lean of the arguments. The line of host operations is read in the parts of RefHost.lean. -/
module

public import proofs.«01_k».proof.Proof.RefHost

@[expose] public section

noncomputable section

namespace Cert.ReferenceIdeal.Body

open Cert.ReferenceIdeal Cert.ReferenceIdeal.Gen
open Idealize.ShloMosaic Idealize.ShloMosaic.TcCoe Idealize.ShloMosaic.Tactic

variable (m : (ℓ : Loc nD τ sig) → Buf (Elt Ideal) ℓ) (c : Dev nD)

/-- The later operations leave the exponents as a choice of three arrays. -/
theorem read33 (U : Valuation τ sig (Elt Ideal)) : StableHlo.after (List.flatten [hostOps0_1, hostOps0_2, hostOps0_3, hostOps0_4, hostOps0_5, hostOps0_6, hostOps0_7, hostOps0_8, hostOps0_9, hostOps0_10, hostOps0_11, hostOps0_12]) U main_v33
    = select (α := Elt Ideal .f32) (s := S192x1) (U main_v24) (broadcastInDim S192x1 ![] bcast_S_S192x1 (U main_cst_8)) (U main_v32) := by
  after_reads_simp
  simp -implicitDefEqProofs only [StableHlo.TRef.toBuf, StableHlo.TRef.ofBuf, cast_cast, cast_eq, id_eq]

/-- That choice is the exponents' formula. -/
theorem first33 : select (α := Elt Ideal .f32) (s := S192x1) (U1 m c main_v24) (broadcastInDim S192x1 ![] bcast_S_S192x1 (U1 m c main_cst_8)) (U1 m c main_v32)
    = exponentV (U1 m c main_v19) := by
  unfold U1 exponentV
  after_reads_simp
  simp only [id_eq]

/-- The later operations leave the ratios alone. -/
theorem v19_cut1 : V m c main_v19 = U1 m c main_v19 := by
  rw [V_eq1 m c main_v19]
  generalize U1 m c = U
  after_reads_simp

/-- The exponents, from the ratios. -/
theorem v33_eq : V m c main_v33 = exponentV (V m c main_v19) := by
  rw [v19_cut1, ← first33, ← read33, V_eq1 m c main_v33]

/-- The scales from the exponents, by the later operations. -/
theorem read41 (U : Valuation τ sig (Elt Ideal)) : StableHlo.after (List.flatten [hostOps0_2, hostOps0_3, hostOps0_4, hostOps0_5, hostOps0_6, hostOps0_7, hostOps0_8, hostOps0_9, hostOps0_10, hostOps0_11, hostOps0_12]) U main_v41 = powerOfTwoV (U main_v33) := by
  unfold powerOfTwoV
  after_reads_simp
  simp -implicitDefEqProofs only [StableHlo.TRef.toBuf, StableHlo.TRef.ofBuf, cast_cast, cast_eq, id_eq]

/-- The operations of part 2 on leave the exponents alone. -/
theorem v33_cut2 : V m c main_v33 = U2 m c main_v33 := by
  rw [V_eq2 m c main_v33]
  generalize U2 m c = U
  after_reads_simp

/-- The scales, from the exponents. -/
theorem v41_eq : V m c main_v41 = powerOfTwoV (V m c main_v33) := by
  rw [v33_cut2, ← read41, V_eq2 m c main_v41]

/-- The inverses from the exponents, by the later operations. -/
theorem read50 (U : Valuation τ sig (Elt Ideal)) : StableHlo.after (List.flatten [hostOps0_6, hostOps0_7, hostOps0_8, hostOps0_9, hostOps0_10, hostOps0_11, hostOps0_12]) U main_v50
    = powerOfTwoV (Host.negf (F := Ideal) (φ := .f32) (s := S192x1) (U main_v33)) := by
  unfold powerOfTwoV
  after_reads_simp
  simp -implicitDefEqProofs only [StableHlo.TRef.toBuf, StableHlo.TRef.ofBuf, cast_cast, cast_eq, id_eq]

/-- The operations of part 3 on leave the exponents alone. -/
theorem v33_cut3 : V m c main_v33 = U3 m c main_v33 := by
  rw [V_eq3 m c main_v33]
  generalize U3 m c = U
  after_reads_simp

/-- The factors, from the exponents. -/
theorem v50_eq : V m c main_v50 = powerOfTwoV (Host.negf (F := Ideal) (φ := .f32) (s := S192x1) (V m c main_v33)) := by
  rw [v33_cut3, ← read50, V_eq3 m c main_v50]

/-- The clipped rows from the rows and the inverses, by the last operations. -/
theorem read53 (U : Valuation τ sig (Elt Ideal)) : StableHlo.after (List.flatten [hostOps0_10, hostOps0_11, hostOps0_12]) U main_v53 = clippedV (U main_v14) (U main_v50) := by
  unfold clippedV
  after_reads_simp
  simp -implicitDefEqProofs only [StableHlo.TRef.toBuf, StableHlo.TRef.ofBuf, cast_cast, cast_eq, id_eq]

/-- The last operations leave the normalised rows alone. -/
theorem v14_cut4 : V m c main_v14 = U4 m c main_v14 := by
  rw [V_eq4 m c main_v14]
  generalize U4 m c = U
  after_reads_simp

/-- The last operations leave the inverses alone. -/
theorem v50_cut4 : V m c main_v50 = U4 m c main_v50 := by
  rw [V_eq4 m c main_v50]
  generalize U4 m c = U
  after_reads_simp

/-- The scaled and clipped rows, from the normalised rows and the factors. -/
theorem v53_eq : V m c main_v53 = clippedV (V m c main_v14) (V m c main_v50) := by
  rw [v14_cut4, v50_cut4, ← read53, V_eq4 m c main_v53]

/-- An entry of the normalised rows. -/
theorem v14_at (j : S192x8192.Idx) : V m c main_v14 j = Qkv.norm (argX m c) (argG m c) (j 0) (j 1) := by
  unfold V
  after_reads_at
  rfl

/-- A weight scale. -/
theorem v70_at (j : S1x10240.Idx) : V m c main_v70 j = argS m c (j 1) := by
  unfold V
  after_reads_at
  rfl

/-- A cosine. -/
theorem v71_at (j : S192x1x64.Idx) : V m c main_v71 j = Ideal.cos (Qkv.angle (argP m c) (j 0) (j 2).val) := by
  unfold V
  after_reads_at
  rfl

/-- A sine. -/
theorem v72_at (j : S192x1x64.Idx) : V m c main_v72 j = Ideal.sin (Qkv.angle (argP m c) (j 0) (j 2).val) := by
  unfold V
  after_reads_at
  rfl

/-- The rows' largest absolute values over 448, from the normalised rows. -/
def ratioV (h : FVec Ideal S192x8192 .f32) : FVec Ideal S192x1 .f32 :=
  mulf (broadcastInDim S192x1 ![0] bcast_S192_S192x1_0
      (Host.reduce FloatOps.maximumf (Host.absf h) (constant S_ .f32 0xFF800000#32) reducesTo_S192x8192_S192_d1 h_S_))
    (broadcastInDim S192x1 ![] bcast_S_S192x1 (constant S_ .f32 0x3B124925#32))

/-- The ratios from the normalised rows. -/
theorem first19 : U1 m c main_v19 = ratioV (U1 m c main_v14) := by
  unfold U1 ratioV
  after_reads_simp

/-- The later operations leave the normalised rows alone. -/
theorem v14_cut1 : V m c main_v14 = U1 m c main_v14 := by
  rw [V_eq1 m c main_v14]
  generalize U1 m c = U
  after_reads_simp

/-- The ratios, from the normalised rows. -/
theorem v19_eq : V m c main_v19 = ratioV (V m c main_v14) := by
  rw [v19_cut1, first19, v14_cut1]

/-- A ratio as a fold over its row. -/
theorem ratioV_at (h : FVec Ideal S192x8192 .f32) (j : S192x1.Idx) :
    ratioV h j = Finset.fold (FloatOps.maximumf (F := Ideal) (φ := .f32)) (Ideal.ofBits .f32 4286578688#32)
      (fun k : Fin 8192 => FloatOps.absf (F := Ideal) (φ := .f32) (h (ix2 (j 0) k))) Finset.univ * Ideal.ofBits .f32 991054117#32 := by
  unfold ratioV
  pointwise

/-- An entry of the ratios. -/
theorem v19_at (j : S192x1.Idx) : V m c main_v19 j = Qkv.ratio (argX m c) (argG m c) (j 0) := by
  rw [v19_eq, ratioV_at]
  unfold Qkv.ratio Qkv.top
  rw [← Qkv.fold_maximum]
  congr 2
  funext k
  exact congrArg _ (v14_at m c (ix2 (j 0) k))

/-- An entry of the exponents. -/
theorem v33_at (j : S192x1.Idx) : V m c main_v33 j = Qkv.exponent (Qkv.ratio (argX m c) (argG m c) (j 0)) := by
  rw [v33_eq, exponentV_at, v19_at]

/-- The scales of the rows. -/
theorem v41_at (j : S192x1.Idx) : V m c main_v41 j = Qkv.scale (argX m c) (argG m c) (j 0) := by
  rw [v41_eq, powerOfTwoV_at, v33_at]
  rfl

/-- An entry of the inverses. -/
theorem v50_at (j : S192x1.Idx) : V m c main_v50 j = Qkv.inverse (argX m c) (argG m c) (j 0) := by
  rw [v50_eq, powerOfTwoV_at]
  exact congrArg (fun e : EReal => Qkv.powerOfTwo (-e)) (v33_at m c j)

/-- The scaled and clipped rows. -/
theorem v53_at (j : S192x8192.Idx) : V m c main_v53 j = Qkv.code (argX m c) (argG m c) (j 0) (j 1) := by
  rw [v53_eq, clippedV_at, v14_at, v50_at]
  rfl

end Cert.ReferenceIdeal.Body

end
-- ==== Proof.RefValue.lean ====
/- The reference's results, entry by entry: the block that its `pallas_call` writes is the whole of every result, and its
   entries are the functions of Spec.lean. -/
module

public import proofs.«01_k».proof.Proof.RefHost
public import Idealize.ShloMosaic.Lib.Pipeline.Value
public import Idealize.ShloMosaic.Lib.Affine

@[expose] public section

noncomputable section

namespace Cert.ReferenceIdeal.Body

open Cert.ReferenceIdeal Cert.ReferenceIdeal.Gen
open Idealize.ShloMosaic Idealize.SL.Sem Idealize.ShloMosaic.TcCoe Idealize.ShloMosaic.Tactic
open Idealize.ShloMosaic.Pipeline (Dat Cfg Window)

section Payloads

variable (a : Vec Ideal S192x8192 .f32) (w : Vec Ideal S8192x10240 .fp8e4m3) (s : Vec Ideal S192x1 .f32) (ws : Vec Ideal S1x10240 .f32)
  (co si : Vec Ideal S192x1x64 .f32)
variable (X : Fin 192 → Fin 8192 → EReal) (G : Fin 8192 → EReal) (W : Fin 8192 → Fin 10240 → EReal)
  (S : Fin 10240 → EReal) (P : Fin 192 → BitVec 32)

/-- An entry of the product, where the operands' entries are the codes, the weights and the scales. -/
theorem pay4_at (ha : ∀ r k, a (ix2 r k) = Qkv.code X G r k) (hw : ∀ k j, w (ix2 k j) = W k j)
    (hs : ∀ r, s (ix2 r 0) = Qkv.scale X G r) (hS : ∀ j, ws (ix2 0 j) = S j) (r : Fin 192) (j : Fin 10240) :
    k0_pay4 a w s ws (ix2 r j) = Qkv.proj X G W S r j := by
  pointwise [k0_pay4, k0_pay3]
  simp only [ha, hw, hs, hS]
  rfl

variable (hp : ∀ r j, k0_pay4 a w s ws (ix2 r j) = Qkv.proj X G W S r j)
  (hc : ∀ r (l : Fin 64), co (ix3 r 0 l) = Ideal.cos (Qkv.angle P r l.val))
  (hn : ∀ r (l : Fin 64), si (ix3 r 0 l) = Ideal.sin (Qkv.angle P r l.val))

include hp hc hn

/-- An entry of the block of the queries. -/
theorem query_block (r : Fin 192) (n : Fin 64) (l : Fin 128) :
    k0_pay9 a w s ws co si (ix3 r n l) = Qkv.query X G W S P r n l := by
  have hn' := n.isLt
  have hl := l.isLt
  pointwise [k0_pay9, k0_pay7, k0_pay8]
  unfold Qkv.query Qkv.rotary Qkv.head
  simp only [hp, hc, hn, Nat.zero_add]
  by_cases h : l.val < 64
  · rw [dif_pos h, dif_pos h]
  · rw [dif_neg h, dif_neg h]
    have e : 64 + (l.val - 64) = l.val := by omega
    simp only [e]

/-- An entry of the block of the keys. -/
theorem key_block (r : Fin 192) (n : Fin 8) (l : Fin 128) :
    k0_pay1 (k0_pay7 co) (k0_pay8 si) (k0_pay10 a w s ws) (k0_pay11 a w s ws) (k0_pay12 co) (ix3 r n l)
      = Qkv.key X G W S P r n l := by
  have hn' := n.isLt
  have hl := l.isLt
  pointwise [k0_pay1, k0_pay7, k0_pay8, k0_pay10, k0_pay11, k0_pay12, k0_pay5]
  unfold Qkv.key Qkv.rotary Qkv.head
  simp only [hp, hc, hn]
  by_cases h : l.val < 64
  · rw [dif_pos h, dif_pos h]
  · rw [dif_neg h, dif_neg h]
    have e : 64 + (l.val - 64) = l.val := by omega
    simp only [e]

omit hc hn in
/-- An entry of the block of the values. -/
theorem value_block (r : Fin 192) (n : Fin 8) (l : Fin 128) :
    k0_pay2 (k0_pay6 a w s ws) (ix3 r n l) = Qkv.value X G W S r n l := by
  pointwise [k0_pay2, k0_pay6]
  rw [hp]
  rfl

end Payloads

variable (m : (ℓ : Loc nD τ sig) → Buf (Elt Ideal) ℓ) (ρ : Dev nD → PrngReg) (c : Dev nD)

/-- The one grid point. -/
def t0 : Fin cfg0.N := ⟨0, by decide⟩

/-! ## The blocks are the arrays -/

/-- The block of the scaled and clipped rows is the whole array. -/
theorem iblk_0 : iblk m c 0 t0 = V m c main_v53 := by
  have hz : (fun a => (win0_0.index t0) a * main_v53.ty.shape.size a) = fun _ => 0 :=
    funext fun a => by fin_cases a <;> decide
  exact Memref.read_access_unit_zero (Elt Ideal) main_v53 hz (fun a => by rw [congrFun hz a]; simp) (V m c main_v53)

/-- The block of the scales is the whole array. -/
theorem iblk_1 : iblk m c 1 t0 = V m c main_v41 := by
  have hz : (fun a => (win0_1.index t0) a * main_v41.ty.shape.size a) = fun _ => 0 :=
    funext fun a => by fin_cases a <;> decide
  exact Memref.read_access_unit_zero (Elt Ideal) main_v41 hz (fun a => by rw [congrFun hz a]; simp) (V m c main_v41)

/-- The block of the weights is the whole array. -/
theorem iblk_2 : iblk m c 2 t0 = V m c main_arg2 := by
  have hz : (fun a => (win0_2.index t0) a * main_arg2.ty.shape.size a) = fun _ => 0 :=
    funext fun a => by fin_cases a <;> decide
  exact Memref.read_access_unit_zero (Elt Ideal) main_arg2 hz (fun a => by rw [congrFun hz a]; simp) (V m c main_arg2)

/-- The block of the weight scales is the whole array. -/
theorem iblk_3 : iblk m c 3 t0 = V m c main_v70 := by
  have hz : (fun a => (win0_3.index t0) a * main_v70.ty.shape.size a) = fun _ => 0 :=
    funext fun a => by fin_cases a <;> decide
  exact Memref.read_access_unit_zero (Elt Ideal) main_v70 hz (fun a => by rw [congrFun hz a]; simp) (V m c main_v70)

/-- The block of the cosines is the whole array. -/
theorem iblk_4 : iblk m c 4 t0 = V m c main_v71 := by
  have hz : (fun a => (win0_4.index t0) a * main_v71.ty.shape.size a) = fun _ => 0 :=
    funext fun a => by fin_cases a <;> decide
  exact Memref.read_access_unit_zero (Elt Ideal) main_v71 hz (fun a => by rw [congrFun hz a]; simp) (V m c main_v71)

/-- The block of the sines is the whole array. -/
theorem iblk_5 : iblk m c 5 t0 = V m c main_v72 := by
  have hz : (fun a => (win0_5.index t0) a * main_v72.ty.shape.size a) = fun _ => 0 :=
    funext fun a => by fin_cases a <;> decide
  exact Memref.read_access_unit_zero (Elt Ideal) main_v72 hz (fun a => by rw [congrFun hz a]; simp) (V m c main_v72)

/-- The block of the queries is one store of what the body computes. -/
theorem out_6 (a : Vec Ideal S192x8192 .f32) (s : Vec Ideal S192x1 .f32) (w : Vec Ideal S8192x10240 .fp8e4m3) (ws : Vec Ideal S1x10240 .f32)
    (co si : Vec Ideal S192x1x64 .f32) : out0_6 a s w ws co si = k0_pay9 a w s ws co si := by
  have hz0 : (![0, 0] : Fin 2 → Nat) = fun _ => 0 := funext fun a => by fin_cases a <;> rfl
  have hz1 : (![0, 0, 0] : Fin 3 → Nat) = fun _ => 0 := funext fun a => by fin_cases a <;> rfl
  unfold out0_6
  rw [View.canon_unit_zero (S := S192x64x128) hz1]
  simp only [r0_0, r0_1, r0_2, r0_3, r0_4]
  repeat rw [View.ld_unit_zero (S := S192x8192) hz0]
  repeat rw [View.ld_unit_zero (S := S8192x10240) hz0]
  repeat rw [View.ld_unit_zero (S := S192x1) hz0]
  repeat rw [View.ld_unit_zero (S := S1x10240) hz0]
  repeat rw [View.ld_unit_zero (S := S192x1x64) hz1]

/-- The block of the keys is one store of what the body computes. -/
theorem out_7 (a : Vec Ideal S192x8192 .f32) (s : Vec Ideal S192x1 .f32) (w : Vec Ideal S8192x10240 .fp8e4m3) (ws : Vec Ideal S1x10240 .f32)
    (co si : Vec Ideal S192x1x64 .f32) : out0_7 a s w ws co si = k0_pay1 (k0_pay7 co) (k0_pay8 si) (k0_pay10 a w s ws) (k0_pay11 a w s ws) (k0_pay12 co) := by
  have hz0 : (![0, 0] : Fin 2 → Nat) = fun _ => 0 := funext fun a => by fin_cases a <;> rfl
  have hz1 : (![0, 0, 0] : Fin 3 → Nat) = fun _ => 0 := funext fun a => by fin_cases a <;> rfl
  unfold out0_7
  rw [View.canon_unit_zero (S := S192x8x128) hz1]
  simp only [r0_0, r0_1, r0_2, r0_3, r0_4]
  repeat rw [View.ld_unit_zero (S := S192x8192) hz0]
  repeat rw [View.ld_unit_zero (S := S8192x10240) hz0]
  repeat rw [View.ld_unit_zero (S := S192x1) hz0]
  repeat rw [View.ld_unit_zero (S := S1x10240) hz0]
  repeat rw [View.ld_unit_zero (S := S192x1x64) hz1]

/-- The block of the values is one store of what the body computes. -/
theorem out_8 (a : Vec Ideal S192x8192 .f32) (s : Vec Ideal S192x1 .f32) (w : Vec Ideal S8192x10240 .fp8e4m3) (ws : Vec Ideal S1x10240 .f32)
    (co si : Vec Ideal S192x1x64 .f32) : out0_8 a s w ws co si = k0_pay2 (k0_pay6 a w s ws) := by
  have hz0 : (![0, 0] : Fin 2 → Nat) = fun _ => 0 := funext fun a => by fin_cases a <;> rfl
  have hz1 : (![0, 0, 0] : Fin 3 → Nat) = fun _ => 0 := funext fun a => by fin_cases a <;> rfl
  unfold out0_8
  rw [View.canon_unit_zero (S := S192x8x128) hz1]
  simp only [r0_0, r0_1, r0_2, r0_3, r0_4]
  repeat rw [View.ld_unit_zero (S := S192x8192) hz0]
  repeat rw [View.ld_unit_zero (S := S8192x10240) hz0]
  repeat rw [View.ld_unit_zero (S := S192x1) hz0]
  repeat rw [View.ld_unit_zero (S := S1x10240) hz0]

/-- The block of the codes is one store of what the body computes. -/
theorem out_9 (a : Vec Ideal S192x8192 .f32) (s : Vec Ideal S192x1 .f32) (w : Vec Ideal S8192x10240 .fp8e4m3) (ws : Vec Ideal S1x10240 .f32)
    (co si : Vec Ideal S192x1x64 .f32) : out0_9 a s w ws co si = k0_pay3 a := by
  have hz0 : (![0, 0] : Fin 2 → Nat) = fun _ => 0 := funext fun a => by fin_cases a <;> rfl
  have hz1 : (![0, 0, 0] : Fin 3 → Nat) = fun _ => 0 := funext fun a => by fin_cases a <;> rfl
  unfold out0_9
  rw [View.canon_unit_zero (S := S192x8192) hz0]
  simp only [r0_0, r0_1, r0_2, r0_3, r0_4]
  repeat rw [View.ld_unit_zero (S := S192x8192) hz0]

/-- At the end the array of the queries is that block. -/
theorem final_6 : (dats m 0 c).arrAt 6 cfg0.N
    = out0_6 (V m c main_v53) (V m c main_v41) (V m c main_arg2) (V m c main_v70) (V m c main_v71) (V m c main_v72) := by
  have ho : ((cfg0.win 6).blk t0).view.read (Elt Ideal) ((dats m 0 c).arrAt 6 cfg0.N) = (dats m 0 c).flushed 6 t0 := by
    rw [show cfg0.N = (t0 : Fin cfg0.N).val + 1 from rfl, (dats m 0 c).arrAt_succ 6 t0,
      show (cfg0.win 6).flush t0 = true from by decide, if_pos rfl]
    exact View.read_write_univ _ _
  have hz : (fun a => (win0_6.index t0) a * main_v73_0.ty.shape.size a) = fun _ => 0 :=
    funext fun a => by fin_cases a <;> decide
  have hr := fun f => Memref.read_access_unit_zero (Elt Ideal) main_v73_0 hz (fun a => by rw [congrFun hz a]; simp) f
  rw [hr] at ho
  rw [ho]
  show (cfg0.win 6).cut _ ((dats m 0 c).after 6 t0) = _
  rw [after0_6, iblk_0, iblk_1, iblk_2, iblk_3, iblk_4, iblk_5]
  rfl

/-- At the end the array of the keys is that block. -/
theorem final_7 : (dats m 0 c).arrAt 7 cfg0.N
    = out0_7 (V m c main_v53) (V m c main_v41) (V m c main_arg2) (V m c main_v70) (V m c main_v71) (V m c main_v72) := by
  have ho : ((cfg0.win 7).blk t0).view.read (Elt Ideal) ((dats m 0 c).arrAt 7 cfg0.N) = (dats m 0 c).flushed 7 t0 := by
    rw [show cfg0.N = (t0 : Fin cfg0.N).val + 1 from rfl, (dats m 0 c).arrAt_succ 7 t0,
      show (cfg0.win 7).flush t0 = true from by decide, if_pos rfl]
    exact View.read_write_univ _ _
  have hz : (fun a => (win0_7.index t0) a * main_v73_1.ty.shape.size a) = fun _ => 0 :=
    funext fun a => by fin_cases a <;> decide
  have hr := fun f => Memref.read_access_unit_zero (Elt Ideal) main_v73_1 hz (fun a => by rw [congrFun hz a]; simp) f
  rw [hr] at ho
  rw [ho]
  show (cfg0.win 7).cut _ ((dats m 0 c).after 7 t0) = _
  rw [after0_7, iblk_0, iblk_1, iblk_2, iblk_3, iblk_4, iblk_5]
  rfl

/-- At the end the array of the values is that block. -/
theorem final_8 : (dats m 0 c).arrAt 8 cfg0.N
    = out0_8 (V m c main_v53) (V m c main_v41) (V m c main_arg2) (V m c main_v70) (V m c main_v71) (V m c main_v72) := by
  have ho : ((cfg0.win 8).blk t0).view.read (Elt Ideal) ((dats m 0 c).arrAt 8 cfg0.N) = (dats m 0 c).flushed 8 t0 := by
    rw [show cfg0.N = (t0 : Fin cfg0.N).val + 1 from rfl, (dats m 0 c).arrAt_succ 8 t0,
      show (cfg0.win 8).flush t0 = true from by decide, if_pos rfl]
    exact View.read_write_univ _ _
  have hz : (fun a => (win0_8.index t0) a * main_v73_2.ty.shape.size a) = fun _ => 0 :=
    funext fun a => by fin_cases a <;> decide
  have hr := fun f => Memref.read_access_unit_zero (Elt Ideal) main_v73_2 hz (fun a => by rw [congrFun hz a]; simp) f
  rw [hr] at ho
  rw [ho]
  show (cfg0.win 8).cut _ ((dats m 0 c).after 8 t0) = _
  rw [after0_8, iblk_0, iblk_1, iblk_2, iblk_3, iblk_4, iblk_5]
  rfl

/-- At the end the array of the codes is that block. -/
theorem final_9 : (dats m 0 c).arrAt 9 cfg0.N
    = out0_9 (V m c main_v53) (V m c main_v41) (V m c main_arg2) (V m c main_v70) (V m c main_v71) (V m c main_v72) := by
  have ho : ((cfg0.win 9).blk t0).view.read (Elt Ideal) ((dats m 0 c).arrAt 9 cfg0.N) = (dats m 0 c).flushed 9 t0 := by
    rw [show cfg0.N = (t0 : Fin cfg0.N).val + 1 from rfl, (dats m 0 c).arrAt_succ 9 t0,
      show (cfg0.win 9).flush t0 = true from by decide, if_pos rfl]
    exact View.read_write_univ _ _
  have hz : (fun a => (win0_9.index t0) a * main_v73_3.ty.shape.size a) = fun _ => 0 :=
    funext fun a => by fin_cases a <;> decide
  have hr := fun f => Memref.read_access_unit_zero (Elt Ideal) main_v73_3 hz (fun a => by rw [congrFun hz a]; simp) f
  rw [hr] at ho
  rw [ho]
  show (cfg0.win 9).cut _ ((dats m 0 c).after 9 t0) = _
  rw [after0_9, iblk_0, iblk_1, iblk_2, iblk_3, iblk_4, iblk_5]
  rfl

end Cert.ReferenceIdeal.Body

end
-- ==== Proof.RefRun.lean ====
/- What the reference's run leaves in its results: the functions of Spec.lean, of the arguments. -/
module

public import proofs.«01_k».proof.Proof.RefArrays
public import proofs.«01_k».proof.Proof.RefValue

@[expose] public section

noncomputable section

namespace Cert.ReferenceIdeal.Body

open Cert.ReferenceIdeal Cert.ReferenceIdeal.Gen
open Idealize.ShloMosaic Idealize.SL.Sem Idealize.ShloMosaic.TcCoe Idealize.ShloMosaic.Tactic
open Idealize.ShloMosaic.Pipeline (Dat Cfg Window)

variable (m : (ℓ : Loc nD τ sig) → Buf (Elt Ideal) ℓ) (ρ : Dev nD → PrngReg) (c : Dev nD)

/-- An entry of the product. -/
theorem product_at (r : Fin 192) (j : Fin 10240) :
    k0_pay4 (V m c main_v53) (V m c main_arg2) (V m c main_v41) (V m c main_v70) (ix2 r j)
      = Qkv.proj (argX m c) (argG m c) (argW m c) (argS m c) r j :=
  pay4_at _ _ _ _ _ _ _ _ (fun r k => v53_at m c (ix2 r k)) (fun k j => by rw [V_main_arg2]; rfl)
    (fun r => v41_at m c (ix2 r 0)) (fun j => v70_at m c (ix2 0 j)) r j

/-- A cosine. -/
theorem cos_at (r : Fin 192) (l : Fin 64) : V m c main_v71 (ix3 r 0 l) = Ideal.cos (Qkv.angle (argP m c) r l.val) := v71_at m c (ix3 r 0 l)
/-- A sine. -/
theorem sin_at (r : Fin 192) (l : Fin 64) : V m c main_v72 (ix3 r 0 l) = Ideal.sin (Qkv.angle (argP m c) r l.val) := v72_at m c (ix3 r 0 l)

/-- The queries. -/
def queries : Vec Ideal S192x64x128 .bf16 := fun i => Qkv.query (argX m c) (argG m c) (argW m c) (argS m c) (argP m c) (i 0) (i 1) (i 2)
/-- The keys. -/
def keys : Vec Ideal S192x8x128 .bf16 := fun i => Qkv.key (argX m c) (argG m c) (argW m c) (argS m c) (argP m c) (i 0) (i 1) (i 2)
/-- The values. -/
def values : Vec Ideal S192x8x128 .bf16 := fun i => Qkv.value (argX m c) (argG m c) (argW m c) (argS m c) (i 0) (i 1) (i 2)
/-- The codes. -/
def codes : Vec Ideal S192x8192 .fp8e4m3 := fun i => Qkv.code (argX m c) (argG m c) (i 0) (i 1)
/-- The scales. -/
def scales : Vec Ideal S192x1 .f32 := fun i => Qkv.scale (argX m c) (argG m c) (i 0)

/-- At the end the array of the queries is the result. -/
theorem result_6 : (dats m 0 c).arrAt 6 cfg0.N = queries m c := by
  rw [final_6, out_6]
  funext i
  obtain ⟨r, n, l, rfl⟩ : ∃ r n l, i = ix3 r n l := ⟨i 0, i 1, i 2, ValueIdx.eq_ix3 i⟩
  exact query_block _ _ _ _ _ _ _ _ _ _ _ (product_at m c) (cos_at m c) (sin_at m c) r n l

/-- At the end the array of the keys is the result. -/
theorem result_7 : (dats m 0 c).arrAt 7 cfg0.N = keys m c := by
  rw [final_7, out_7]
  funext i
  obtain ⟨r, n, l, rfl⟩ : ∃ r n l, i = ix3 r n l := ⟨i 0, i 1, i 2, ValueIdx.eq_ix3 i⟩
  exact key_block _ _ _ _ _ _ _ _ _ _ _ (product_at m c) (cos_at m c) (sin_at m c) r n l

/-- At the end the array of the values is the result. -/
theorem result_8 : (dats m 0 c).arrAt 8 cfg0.N = values m c := by
  rw [final_8, out_8]
  funext i
  obtain ⟨r, n, l, rfl⟩ : ∃ r n l, i = ix3 r n l := ⟨i 0, i 1, i 2, ValueIdx.eq_ix3 i⟩
  exact value_block _ _ _ _ _ _ _ _ (product_at m c) r n l

/-- At the end the array of the codes is the result. -/
theorem result_9 : (dats m 0 c).arrAt 9 cfg0.N = codes m c := by
  rw [final_9, out_9]
  funext i
  obtain ⟨r, k, rfl⟩ : ∃ r k, i = ix2 r k := ⟨i 0, i 1, ValueIdx.eq_ix2 i⟩
  pointwise [k0_pay3]
  exact v53_at m c (ix2 r k)

/-- The array of the scales. -/
theorem result_scales : V m c main_v41 = scales m c := funext fun i => v41_at m c i

/-- The run leaves the queries in their array. -/
theorem post_6 (r : PUnit × MemSt nD τ sig (Elt Ideal)) (h : Pipeline.FramePost cfgs (dats m) 0 (V m) r) :
    r.2.mem ((c : Thread nD τ).loc main_v73_0) = queries m c :=
  Eq.trans (b := (dats m 0 c).arrAt 6 cfg0.N) ((h c).1 6) (result_6 m c)
/-- The run leaves the keys in their array. -/
theorem post_7 (r : PUnit × MemSt nD τ sig (Elt Ideal)) (h : Pipeline.FramePost cfgs (dats m) 0 (V m) r) :
    r.2.mem ((c : Thread nD τ).loc main_v73_1) = keys m c :=
  Eq.trans (b := (dats m 0 c).arrAt 7 cfg0.N) ((h c).1 7) (result_7 m c)
/-- The run leaves the values in their array. -/
theorem post_8 (r : PUnit × MemSt nD τ sig (Elt Ideal)) (h : Pipeline.FramePost cfgs (dats m) 0 (V m) r) :
    r.2.mem ((c : Thread nD τ).loc main_v73_2) = values m c :=
  Eq.trans (b := (dats m 0 c).arrAt 8 cfg0.N) ((h c).1 8) (result_8 m c)
/-- The run leaves the codes in their array. -/
theorem post_9 (r : PUnit × MemSt nD τ sig (Elt Ideal)) (h : Pipeline.FramePost cfgs (dats m) 0 (V m) r) :
    r.2.mem ((c : Thread nD τ).loc main_v73_3) = codes m c :=
  Eq.trans (b := (dats m 0 c).arrAt 9 cfg0.N) ((h c).1 9) (result_9 m c)
/-- The run leaves the scales in their array. -/
theorem post_1 (r : PUnit × MemSt nD τ sig (Elt Ideal)) (h : Pipeline.FramePost cfgs (dats m) 0 (V m) r) :
    r.2.mem ((c : Thread nD τ).loc main_v41) = scales m c :=
  Eq.trans (b := V m c main_v41) (((h c).1 1).trans (((dats m 0 c).arrAt_in 1 rfl _).trans (A_eq m c 1))) (result_scales m c)

/-- The reference's run: its results are the functions of Spec.lean, and its arguments are kept. -/
theorem run : θ_run defs (onTc (τ := τ) (main (F := Ideal))) ⟨m, fun _ => 0, ρ⟩ fun r => ∀ c : Dev nD,
      r.2.mem ((c : Thread nD τ).loc main_v73_0) = queries m c
      ∧ r.2.mem ((c : Thread nD τ).loc main_v73_1) = keys m c
      ∧ r.2.mem ((c : Thread nD τ).loc main_v73_2) = values m c
      ∧ r.2.mem ((c : Thread nD τ).loc main_v73_3) = codes m c
      ∧ r.2.mem ((c : Thread nD τ).loc main_v41) = scales m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c =>
    ⟨post_6 m c r h, post_7 m c r h, post_8 m c r h, post_9 m c r h, post_1 m c r h,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main m ρ)

end Cert.ReferenceIdeal.Body

end
-- ==== Proof.lean ====
module

public import proofs.«01_k».proof.Defs
public import proofs.«01_k».proof.Proof.KernelFrame
public import proofs.«01_k».proof.Proof.IdealFrame
public import proofs.«01_k».proof.Proof.KernelValue
public import proofs.«01_k».proof.Proof.RefRun
public import proofs.«01_k».proof.Proof.Gen.ReferenceIdeal.Frame
public import Idealize.ShloMosaic.Lib.Bf16Pair

@[expose] public section

open Idealize.ShloMosaic Idealize.ShloMosaic.TcCoe

section Value

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The two programs have the same inputs. -/
theorem Cert.Proof.argX_eq (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) :
    Cert.ReferenceIdeal.Body.argX m' c = Cert.KernelIdeal.Body.argX m c :=
  funext fun _ => funext fun _ => congrFun h _
/-- The two programs have the same gains. -/
theorem Cert.Proof.argG_eq (h : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    Cert.ReferenceIdeal.Body.argG m' c = Cert.KernelIdeal.Body.argG m c :=
  funext fun _ => congrFun h _
/-- The two programs have the same weights. -/
theorem Cert.Proof.argW_eq (h : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.ReferenceIdeal.Body.argW m' c = Cert.KernelIdeal.Body.argW m c :=
  funext fun _ => funext fun _ => congrFun h _
/-- The two programs have the same weight scales. -/
theorem Cert.Proof.argS_eq (h : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.ReferenceIdeal.Body.argS m' c = Cert.KernelIdeal.Body.argS m c :=
  funext fun _ => congrFun h _
/-- The two programs have the same positions. -/
theorem Cert.Proof.argP_eq (h : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Body.argP m' c = Cert.KernelIdeal.Body.argP m c :=
  funext fun _ => congrFun h _

end Value

/-- The kernel's five results are the reference's. -/
theorem Cert.Proof.value : @Cert.algebraic_KernelIdeal_ReferenceIdeal Cert.KernelIdeal.Gen.facts Cert.ReferenceIdeal.Gen.facts := by
  intro m g m' g' _ h
  refine ⟨fun c => Cert.KernelIdeal.Body.queries m c, fun c => Cert.KernelIdeal.Body.keys m c, fun c => Cert.KernelIdeal.Body.values m c,
    fun c => Cert.KernelIdeal.Body.codes m c, fun c => Cert.KernelIdeal.Body.scales m c, Cert.KernelIdeal.Body.run m g, ?_⟩
  refine (θ_run _ _ _).mono (fun r hr c => ?_) (Cert.ReferenceIdeal.Body.run m' g')
  obtain ⟨h0, h1, h2, h3, h4⟩ := h c
  obtain ⟨r0, r1, r2, r3, r4, rest⟩ := hr c
  have eX := Cert.Proof.argX_eq m m' c h0
  have eG := Cert.Proof.argG_eq m m' c h1
  have eW := Cert.Proof.argW_eq m m' c h2
  have eS := Cert.Proof.argS_eq m m' c h3
  have eP := Cert.Proof.argP_eq m m' c h4
  refine ⟨r0.trans ?_, r1.trans ?_, r2.trans ?_, r3.trans ?_, r4.trans ?_, rest⟩
  · unfold Cert.ReferenceIdeal.Body.queries Cert.KernelIdeal.Body.queries
    rw [eX, eG, eW, eS, eP]
  · unfold Cert.ReferenceIdeal.Body.keys Cert.KernelIdeal.Body.keys
    rw [eX, eG, eW, eS, eP]
  · unfold Cert.ReferenceIdeal.Body.values Cert.KernelIdeal.Body.values
    rw [eX, eG, eW, eS]
  · unfold Cert.ReferenceIdeal.Body.codes Cert.KernelIdeal.Body.codes
    rw [eX, eG]
  · unfold Cert.ReferenceIdeal.Body.scales Cert.KernelIdeal.Body.scales
    rw [eX, eG]

/-- Everything claimed. -/
theorem Cert.Proof.claim : Cert.Claim :=
  ⟨Cert.Kernel.Gen.facts, Cert.KernelIdeal.Gen.facts, Cert.ReferenceIdeal.Gen.facts,
    fun m ρ _ => Cert.Kernel.Body.frame m ρ,
    fun m ρ _ => Cert.KernelIdeal.Body.frame m ρ,
    fun m ρ _ => Cert.ReferenceIdeal.Gen.frame m ρ,
    ⟨IdealRules.bf16_pair.packStatement Cert.KernelIdeal.S192x128,
      IdealRules.bf16_pair.statement Cert.KernelIdeal.S192x2x128 Cert.KernelIdeal.S192x1x128⟩,
    Cert.Proof.value⟩
